-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x200x101x512 : Shape := ⟨4, ![8, 200, 101, 512]⟩
abbrev S8x101 : Shape := ⟨2, ![8, 101]⟩
abbrev S8 : Shape := ⟨1, ![8]⟩
abbrev S_ : Shape := ⟨0, ![]⟩

class Facts : Prop where
  bcast_S_S8x200x101x512 : S_.BroadcastsInDim S8x200x101x512 (![] : Fin 0 → Fin S8x200x101x512.rank)
  reducesTo_S8x200x101x512_S_d0_1_2_3 : S8x200x101x512.ReducesTo [0, 1, 2, 3] S_
  h_S_ : 0 < S_.numel
  bcast_S_S8x101 : S_.BroadcastsInDim S8x101 (![] : Fin 0 → Fin S8x101.rank)
  reducesTo_S8x101_S_d0_1 : S8x101.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : IVec S8 32) (main_v10 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_v17 : IVec S_ 1 := andi main_v10 main_v16
  let main_c_6 : IVec S_ 32 := constantI S_ 32 1#32
  let main_v18 : IVec S8 32 := broadcastInDim S8 ![] bcast_S_S8 main_c_6
  let main_v19 : IVec S8 1 := cmpi .sge main_arg3 main_v18
  let main_c_7 : IVec S_ 32 := constantI S_ 32 101#32
  let main_v20 : IVec S8 32 := broadcastInDim S8 ![] bcast_S_S8 main_c_7
  let main_v21 : IVec S8 1 := cmpi .sle main_arg3 main_v20
  let main_v22 : IVec S8 1 := andi main_v19 main_v21
  let main_c_8 : IVec S_ 1 := constantI S_ 1 1#1
  let main_v23 : IVec S_ 1 := (fun x v => Host.reduce IntOp.andi x v reducesTo_S8_S_d0 h_S_) main_v22 main_c_8
  let main_v24 : IVec S_ 1 := andi main_v17 main_v23
  main_v24

def fn {F : FTy → Type} [FloatOps F] (main_arg0 : FVec F S8x200x101x512 .f32) (main_arg1 : IVec S8x101 32) (main_arg2 : IVec S8 32) (main_arg3 : IVec S8 32) : IVec S_ 1 :=
  let main_v0 : FVec F S8x200x101x512 .f32 := Host.absf main_arg0
  let main_cst : FVec F S_ .f32 := constant S_ .f32 0x7F800000#32
  let main_v1 : FVec F S8x200x101x512 .f32 := broadcastInDim S8x200x101x512 ![] bcast_S_S8x200x101x512 main_cst
  let main_v2 : IVec S8x200x101x512 1 := cmpf .olt main_v0 main_v1
  let main_c : IVec S_ 1 := constantI S_ 1 1#1
  let main_v3 : IVec S_ 1 := (fun x v => Host.reduce IntOp.andi x v reducesTo_S8x200x101x512_S_d0_1_2_3 h_S_) main_v2 main_c
  let main_c_0 : IVec S_ 32 := constantI S_ 32 0#32
  let main_v4 : IVec S8x101 32 := broadcastInDim S8x101 ![] bcast_S_S8x101 main_c_0
  let main_v5 : IVec S8x101 1 := cmpi .sge main_arg1 main_v4
  let main_c_1 : IVec S_ 32 := constantI S_ 32 512#32
  let main_v6 : IVec S8x101 32 := broadcastInDim S8x101 ![] bcast_S_S8x101 main_c_1
  let main_v7 : IVec S8x101 1 := cmpi .slt main_arg1 main_v6
  let main_v8 : IVec S8x101 1 := andi main_v5 main_v7
  let main_c_2 : IVec S_ 1 := constantI S_ 1 1#1
  let main_v9 : IVec S_ 1 := (fun x v => Host.reduce IntOp.andi x v reducesTo_S8x101_S_d0_1 h_S_) main_v8 main_c_2
  let main_v10 : IVec S_ 1 := andi main_v3 main_v9
  let main_c_3 : IVec S_ 32 := constantI S_ 32 1#32
  let main_v11 : IVec S8 32 := broadcastInDim S8 ![] bcast_S_S8 main_c_3
  let main_v12 : IVec S8 1 := cmpi .sge main_arg2 main_v11
  let main_c_4 : IVec S_ 32 := constantI S_ 32 200#32
  let main_v13 : IVec S8 32 := broadcastInDim S8 ![] bcast_S_S8 main_c_4
  let main_v14 : IVec S8 1 := cmpi .sle main_arg2 main_v13
  let main_v15 : IVec S8 1 := andi main_v12 main_v14
  let main_c_5 : IVec S_ 1 := constantI S_ 1 1#1
  fn_part1 (F := F) main_arg3 main_v10 main_v15 main_c_5
-- ==== Kernel.lean ====
abbrev S8x200x101x512 : Shape := ⟨4, ![8, 200, 101, 512]⟩
abbrev S8x101 : Shape := ⟨2, ![8, 101]⟩
abbrev S8 : Shape := ⟨1, ![8]⟩
abbrev S8x100 : Shape := ⟨2, ![8, 100]⟩
abbrev S_ : Shape := ⟨0, ![]⟩
abbrev S8x1 : Shape := ⟨2, ![8, 1]⟩
abbrev S1x1 : Shape := ⟨2, ![1, 1]⟩
abbrev S8x8x101x512 : Shape := ⟨4, ![8, 8, 101, 512]⟩
abbrev S8x8x101 : Shape := ⟨3, ![8, 8, 101]⟩
abbrev S8x101x512 : Shape := ⟨3, ![8, 101, 512]⟩
abbrev S8x101x1 : Shape := ⟨3, ![8, 101, 1]⟩
abbrev S1x8x101 : Shape := ⟨3, ![1, 8, 101]⟩
abbrev S8x2 : Shape := ⟨2, ![8, 2]⟩
abbrev S8x99 : Shape := ⟨2, ![8, 99]⟩
abbrev S8x4 : Shape := ⟨2, ![8, 4]⟩
abbrev S8x97 : Shape := ⟨2, ![8, 97]⟩
abbrev S8x8 : Shape := ⟨2, ![8, 8]⟩
abbrev S8x93 : Shape := ⟨2, ![8, 93]⟩
abbrev S8x16 : Shape := ⟨2, ![8, 16]⟩
abbrev S8x85 : Shape := ⟨2, ![8, 85]⟩
abbrev S8x32 : Shape := ⟨2, ![8, 32]⟩
abbrev S8x69 : Shape := ⟨2, ![8, 69]⟩
abbrev S8x64 : Shape := ⟨2, ![8, 64]⟩
abbrev S8x37 : Shape := ⟨2, ![8, 37]⟩
abbrev S8x4x101x512 : Shape := ⟨4, ![8, 4, 101, 512]⟩
abbrev S8x4x101 : Shape := ⟨3, ![8, 4, 101]⟩
abbrev S8x4x101x1 : Shape := ⟨4, ![8, 4, 101, 1]⟩
abbrev S8x1x101x512 : Shape := ⟨4, ![8, 1, 101, 512]⟩
abbrev S8x4x1 : Shape := ⟨3, ![8, 4, 1]⟩
abbrev S8x4x100 : Shape := ⟨3, ![8, 4, 100]⟩
abbrev S8x4x2 : Shape := ⟨3, ![8, 4, 2]⟩
abbrev S8x4x99 : Shape := ⟨3, ![8, 4, 99]⟩
abbrev S8x4x4 : Shape := ⟨3, ![8, 4, 4]⟩
abbrev S8x4x97 : Shape := ⟨3, ![8, 4, 97]⟩
abbrev S8x4x8 : Shape := ⟨3, ![8, 4, 8]⟩
abbrev S8x4x93 : Shape := ⟨3, ![8, 4, 93]⟩
abbrev S8x4x16 : Shape := ⟨3, ![8, 4, 16]⟩
abbrev S8x4x85 : Shape := ⟨3, ![8, 4, 85]⟩
abbrev S8x4x32 : Shape := ⟨3, ![8, 4, 32]⟩
abbrev S8x4x69 : Shape := ⟨3, ![8, 4, 69]⟩
abbrev S8x4x64 : Shape := ⟨3, ![8, 4, 64]⟩
abbrev S8x4x37 : Shape := ⟨3, ![8, 4, 37]⟩
abbrev S8x1x101 : Shape := ⟨3, ![8, 1, 101]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 18
  | .vmem => 11
  | .smem => 0
  | _ => 0

abbrev bufTy : (tb : Table) → Fin (tcTables nBuf tb) → BufTy
  | .hbm, ⟨0, _⟩ => ⟨S8x200x101x512, .f32⟩
  | .hbm, ⟨1, _⟩ => ⟨S8x101, .i32⟩
  | .hbm, ⟨2, _⟩ => ⟨S8, .i32⟩
  | .hbm, ⟨3, _⟩ => ⟨S8, .i32⟩
  | .hbm, ⟨4, _⟩ => ⟨S8x100, .i32⟩
  | .hbm, ⟨5, _⟩ => ⟨S_, .i32⟩
  | .hbm, ⟨6, _⟩ => ⟨S8x1, .i32⟩
  | .hbm, ⟨7, _⟩ => ⟨S8x101, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S1x1, .f32⟩
  | .hbm, ⟨17, _⟩ => ⟨S_, .f32⟩
  | .local _ .vmem, ⟨0, _⟩ => ⟨S8x8x101x512, .f32⟩
  | .local _ .vmem, ⟨1, _⟩ => ⟨S8x8x101x512, .f32⟩
  | .local _ .vmem, ⟨2, _⟩ => ⟨S8x101, .i32⟩
  | .local _ .vmem, ⟨3, _⟩ => ⟨S8x1, .i32⟩
  | .local _ .vmem, ⟨4, _⟩ => ⟨S8x1, .i32⟩
  | .local _ .vmem, ⟨5, _⟩ => ⟨S1x1, .f32⟩
  | .local _ .vmem, ⟨6, _⟩ => ⟨S8x101, .f32⟩
  | .local _ .vmem, ⟨7, _⟩ => ⟨S8x101, .f32⟩
  | .local _ .vmem, ⟨8, _⟩ => ⟨S8x1, .f32⟩
  | .local _ .vmem, ⟨9, _⟩ => ⟨S8x8x101, .f32⟩
  | .local _ .vmem, ⟨10, _⟩ => ⟨S8x8x101, .f32⟩
  | _, _ => ⟨S8x200x101x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![26], ![false]⟩

def k0_cond3 (i : grid0.Coords) : BitVec 1 :=
  let arg0 : BitVec 32 := BitVec.ofNat 32 (i 0).val
  let c25_i32_214 : BitVec 32 := 25#32
  let v980 : BitVec 1 := Scalar.cmpi .eq arg0 c25_i32_214
  let v981 : BitVec 32 := Scalar.extui v980
  let c0_i32_215 : BitVec 32 := 0#32
  let v982 : BitVec 1 := Scalar.cmpi .ne v981 c0_i32_215
  v982

def cc0_transform_0 (i : grid0.Coords) : Fin 4 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8x101x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x101 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S8x200x101x512 : Shape := ⟨4, ![8, 200, 101, 512]⟩
abbrev S8x101 : Shape := ⟨2, ![8, 101]⟩
abbrev S8 : Shape := ⟨1, ![8]⟩
abbrev S8x100 : Shape := ⟨2, ![8, 100]⟩
abbrev S_ : Shape := ⟨0, ![]⟩
abbrev S8x200x101 : Shape := ⟨3, ![8, 200, 101]⟩
abbrev S8x200x101x1 : Shape := ⟨4, ![8, 200, 101, 1]⟩
abbrev S8x200x100x512 : Shape := ⟨4, ![8, 200, 100, 512]⟩
abbrev S8x1x100x1 : Shape := ⟨4, ![8, 1, 100, 1]⟩
abbrev S8x100x1x1 : Shape := ⟨4, ![8, 100, 1, 1]⟩
abbrev S1 : Shape := ⟨1, ![1]⟩
abbrev S1x1x1x1 : Shape := ⟨4, ![1, 1, 1, 1]⟩
abbrev S8x100x1 : Shape := ⟨3, ![8, 100, 1]⟩
abbrev S8x200x100x1 : Shape := ⟨4, ![8, 200, 100, 1]⟩
abbrev S8x200x100 : Shape := ⟨3, ![8, 200, 100]⟩
abbrev S300 : Shape := ⟨1, ![300]⟩
abbrev S300x1 : Shape := ⟨2, ![300, 1]⟩
abbrev S101 : Shape := ⟨1, ![101]⟩
abbrev S1x101 : Shape := ⟨2, ![1, 101]⟩
abbrev S300x101 : Shape := ⟨2, ![300, 101]⟩
abbrev S300x101x1 : Shape := ⟨3, ![300, 101, 1]⟩
abbrev S300x101x2 : Shape := ⟨3, ![300, 101, 2]⟩
abbrev S8x300x101 : Shape := ⟨3, ![8, 300, 101]⟩
abbrev S1x300x101 : Shape := ⟨3, ![1, 300, 101]⟩
abbrev S100 : Shape := ⟨1, ![100]⟩
abbrev S1x100 : Shape := ⟨2, ![1, 100]⟩
abbrev S300x100 : Shape := ⟨2, ![300, 100]⟩
abbrev S300x100x1 : Shape := ⟨3, ![300, 100, 1]⟩
abbrev S300x100x2 : Shape := ⟨3, ![300, 100, 2]⟩
abbrev S8x300x100 : Shape := ⟨3, ![8, 300, 100]⟩
abbrev S1x300x100 : Shape := ⟨3, ![1, 300, 100]⟩
abbrev S300x8x101 : Shape := ⟨3, ![300, 8, 101]⟩
abbrev S299x8x101 : Shape := ⟨3, ![299, 8, 101]⟩
abbrev S300x8x100 : Shape := ⟨3, ![300, 8, 100]⟩
abbrev S299x8x100 : Shape := ⟨3, ![299, 8, 100]⟩
abbrev S1x8x101 : Shape := ⟨3, ![1, 8, 101]⟩
abbrev S1x8x100 : Shape := ⟨3, ![1, 8, 100]⟩
abbrev S8x1 : Shape := ⟨2, ![8, 1]⟩
abbrev S8x3 : Shape := ⟨2, ![8, 3]⟩

abbrev nBuf : Space → Nat
  | .hbm => 264
  | .vmem => 0
  | .smem => 0
  | _ => 0

abbrev hbmTy0_0 (i : Nat) : BufTy := match i % 128 with
  | 0 => ⟨S8x200x101x512, .f32⟩
  | 1 => ⟨S8x101, .i32⟩
  | 2 => ⟨S8, .i32⟩
  | 3 => ⟨S8, .i32⟩
  | 4 => ⟨S8x100, .i32⟩
  | 5 => ⟨S_, .i32⟩
  | 6 => ⟨S8, .i32⟩
  | 7 => ⟨S8, .i32⟩
  | 8 => ⟨S_, .f32⟩
  | 9 => ⟨S8x200x101, .f32⟩
  | 10 => ⟨S_, .f32⟩
  | 11 => ⟨S8x200x101, .f32⟩
  | 12 => ⟨S8x200x101, .f32⟩
  | 13 => ⟨S8x200x101x1, .f32⟩
  | 14 => ⟨S8x200x101x512, .f32⟩
  | 15 => ⟨S8x200x101x512, .f32⟩
  | 16 => ⟨S8x200x101x512, .f32⟩
  | 17 => ⟨S_, .f32⟩
  | 18 => ⟨S8x200x101, .f32⟩
  | 19 => ⟨S8x200x101x1, .f32⟩
  | 20 => ⟨S8x200x101x1, .f32⟩
  | 21 => ⟨S8x200x101x512, .f32⟩
  | 22 => ⟨S8x200x101x512, .f32⟩
  | 23 => ⟨S8x200x101x1, .f32⟩
  | 24 => ⟨S8x200x101, .f32⟩
  | 25 => ⟨S8x200x100x512, .f32⟩
  | 26 => ⟨S8x1x100x1, .i32⟩
  | 27 => ⟨S_, .i32⟩
  | 28 => ⟨S8x1x100x1, .i32⟩
  | 29 => ⟨S8x1x100x1, .i1⟩
  | 30 => ⟨S_, .i32⟩
  | 31 => ⟨S8x1x100x1, .i32⟩
  | 32 => ⟨S8x1x100x1, .i32⟩
  | 33 => ⟨S8x1x100x1, .i32⟩
  | 34 => ⟨S8x100x1x1, .i32⟩
  | 35 => ⟨S1, .i32⟩
  | 36 => ⟨S_, .i32⟩
  | 37 => ⟨S8x100x1x1, .i32⟩
  | 38 => ⟨S8x100x1x1, .i1⟩
  | 39 => ⟨S1x1x1x1, .i32⟩
  | 40 => ⟨S8x100x1x1, .i32⟩
  | 41 => ⟨S8x100x1x1, .i1⟩
  | 42 => ⟨S8x100x1x1, .i1⟩
  | 43 => ⟨S_, .i1⟩
  | 44 => ⟨S8x100x1, .i1⟩
  | 45 => ⟨S8x200x100x1, .f32⟩
  | 46 => ⟨S8x200x100x1, .i1⟩
  | 47 => ⟨S_, .f32⟩
  | 48 => ⟨S8x200x100x1, .f32⟩
  | 49 => ⟨S8x200x100x1, .f32⟩
  | 50 => ⟨S8x200x100, .f32⟩
  | 51 => ⟨S300, .i32⟩
  | 52 => ⟨S300x1, .i32⟩
  | 53 => ⟨S101, .i32⟩
  | 54 => ⟨S1x101, .i32⟩
  | 55 => ⟨S300x101, .i32⟩
  | 56 => ⟨S300x101, .i32⟩
  | 57 => ⟨S300x101, .i32⟩
  | 58 => ⟨S_, .i32⟩
  | 59 => ⟨S300x101, .i32⟩
  | 60 => ⟨S300x101, .i1⟩
  | 61 => ⟨S_, .i32⟩
  | 62 => ⟨S300x101, .i32⟩
  | 63 => ⟨S300x101, .i1⟩
  | 64 => ⟨S300x101, .i1⟩
  | 65 => ⟨S_, .i32⟩
  | 66 => ⟨S_, .i32⟩
  | 67 => ⟨S_, .i32⟩
  | 68 => ⟨S300x101, .i32⟩
  | 69 => ⟨S300x101, .i32⟩
  | 70 => ⟨S_, .i32⟩
  | 71 => ⟨S300x101, .i32⟩
  | 72 => ⟨S300x101, .i32⟩
  | 73 => ⟨S_, .i32⟩
  | 74 => ⟨S300x101, .i32⟩
  | 75 => ⟨S300x101, .i1⟩
  | 76 => ⟨S_, .i32⟩
  | 77 => ⟨S300x101, .i32⟩
  | 78 => ⟨S300x101, .i32⟩
  | 79 => ⟨S300x101, .i32⟩
  | 80 => ⟨S_, .i32⟩
  | 81 => ⟨S1x101, .i32⟩
  | 82 => ⟨S1x101, .i1⟩
  | 83 => ⟨S_, .i32⟩
  | 84 => ⟨S1x101, .i32⟩
  | 85 => ⟨S1x101, .i32⟩
  | 86 => ⟨S1x101, .i32⟩
  | 87 => ⟨S300x101, .i32⟩
  | 88 => ⟨S300x101x1, .i32⟩
  | 89 => ⟨S300x101x1, .i32⟩
  | 90 => ⟨S300x101x2, .i32⟩
  | 91 => ⟨S8x300x101, .f32⟩
  | 92 => ⟨S1x300x101, .i1⟩
  | 93 => ⟨S_, .f32⟩
  | 94 => ⟨S_, .f32⟩
  | 95 => ⟨S8x300x101, .i1⟩
  | 96 => ⟨S8x300x101, .f32⟩
  | 97 => ⟨S8x300x101, .f32⟩
  | 98 => ⟨S300, .i32⟩
  | 99 => ⟨S300x1, .i32⟩
  | 100 => ⟨S100, .i32⟩
  | 101 => ⟨S1x100, .i32⟩
  | 102 => ⟨S300x100, .i32⟩
  | 103 => ⟨S300x100, .i32⟩
  | 104 => ⟨S300x100, .i32⟩
  | 105 => ⟨S_, .i32⟩
  | 106 => ⟨S300x100, .i32⟩
  | 107 => ⟨S300x100, .i1⟩
  | 108 => ⟨S_, .i32⟩
  | 109 => ⟨S300x100, .i32⟩
  | 110 => ⟨S300x100, .i1⟩
  | 111 => ⟨S300x100, .i1⟩
  | 112 => ⟨S_, .i32⟩
  | 113 => ⟨S_, .i32⟩
  | 114 => ⟨S_, .i32⟩
  | 115 => ⟨S300x100, .i32⟩
  | 116 => ⟨S300x100, .i32⟩
  | 117 => ⟨S_, .i32⟩
  | 118 => ⟨S300x100, .i32⟩
  | 119 => ⟨S300x100, .i32⟩
  | 120 => ⟨S_, .i32⟩
  | 121 => ⟨S300x100, .i32⟩
  | 122 => ⟨S300x100, .i1⟩
  | 123 => ⟨S_, .i32⟩
  | 124 => ⟨S300x100, .i32⟩
  | 125 => ⟨S300x100, .i32⟩
  | 126 => ⟨S300x100, .i32⟩
  | 127 => ⟨S_, .i32⟩
  | _ => ⟨S8x200x101x512, .f32⟩

abbrev hbmTy0_1 (i : Nat) : BufTy := match i % 128 with
  | 0 => ⟨S1x100, .i32⟩
  | 1 => ⟨S1x100, .i1⟩
  | 2 => ⟨S_, .i32⟩
  | 3 => ⟨S1x100, .i32⟩
  | 4 => ⟨S1x100, .i32⟩
  | 5 => ⟨S1x100, .i32⟩
  | 6 => ⟨S300x100, .i32⟩
  | 7 => ⟨S300x100x1, .i32⟩
  | 8 => ⟨S300x100x1, .i32⟩
  | 9 => ⟨S300x100x2, .i32⟩
  | 10 => ⟨S8x300x100, .f32⟩
  | 11 => ⟨S1x300x100, .i1⟩
  | 12 => ⟨S_, .f32⟩
  | 13 => ⟨S_, .f32⟩
  | 14 => ⟨S8x300x100, .i1⟩
  | 15 => ⟨S8x300x100, .f32⟩
  | 16 => ⟨S8x300x100, .f32⟩
  | 17 => ⟨S_, .f32⟩
  | 18 => ⟨S8x101, .f32⟩
  | 19 => ⟨S_, .i32⟩
  | 20 => ⟨S1, .i32⟩
  | 21 => ⟨S_, .f32⟩
  | 22 => ⟨S8, .f32⟩
  | 23 => ⟨S8x101, .f32⟩
  | 24 => ⟨S300x8x101, .f32⟩
  | 25 => ⟨S299x8x101, .f32⟩
  | 26 => ⟨S300x8x100, .f32⟩
  | 27 => ⟨S299x8x100, .f32⟩
  | 28 => ⟨S_, .f32⟩
  | 29 => ⟨S299x8x101, .f32⟩
  | 30 => ⟨S_, .i32⟩
  | 31 => ⟨S299x8x101, .f32⟩
  | 32 => ⟨S299x8x100, .f32⟩
  | 33 => ⟨S_, .i32⟩
  | 34 => ⟨S8x101, .f32⟩
  | 35 => ⟨S299x8x101, .f32⟩
  | 36 => ⟨S_, .i32⟩
  | 37 => ⟨S_, .i1⟩
  | 38 => ⟨S_, .i32⟩
  | 39 => ⟨S_, .i32⟩
  | 40 => ⟨S1x8x101, .f32⟩
  | 41 => ⟨S8x101, .f32⟩
  | 42 => ⟨S_, .i32⟩
  | 43 => ⟨S_, .i32⟩
  | 44 => ⟨S1x8x100, .f32⟩
  | 45 => ⟨S8x100, .f32⟩
  | 46 => ⟨S8x101, .f32⟩
  | 47 => ⟨S8x100, .f32⟩
  | 48 => ⟨S8x100, .f32⟩
  | 49 => ⟨S_, .f32⟩
  | 50 => ⟨S_, .f32⟩
  | 51 => ⟨S8x101, .f32⟩
  | 52 => ⟨S8x101, .f32⟩
  | 53 => ⟨S8x101, .f32⟩
  | 54 => ⟨S8x101, .i1⟩
  | 55 => ⟨S8x101, .f32⟩
  | 56 => ⟨S8x101, .f32⟩
  | 57 => ⟨S8x101, .f32⟩
  | 58 => ⟨S8x101, .f32⟩
  | 59 => ⟨S8x101, .f32⟩
  | 60 => ⟨S8x101, .f32⟩
  | 61 => ⟨S8x101, .f32⟩
  | 62 => ⟨S1x8x101, .f32⟩
  | 63 => ⟨S_, .i32⟩
  | 64 => ⟨S_, .i32⟩
  | 65 => ⟨S299x8x101, .f32⟩
  | 66 => ⟨S_, .i32⟩
  | 67 => ⟨S_, .i32⟩
  | 68 => ⟨S1x8x101, .f32⟩
  | 69 => ⟨S300x8x101, .f32⟩
  | 70 => ⟨S8, .i32⟩
  | 71 => ⟨S_, .i32⟩
  | 72 => ⟨S8, .i32⟩
  | 73 => ⟨S8, .i32⟩
  | 74 => ⟨S8, .i32⟩
  | 75 => ⟨S_, .i32⟩
  | 76 => ⟨S8, .i32⟩
  | 77 => ⟨S8, .i1⟩
  | 78 => ⟨S_, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S_, .i32⟩
  | 86 => ⟨S8, .i32⟩
  | 87 => ⟨S8, .i32⟩
  | 88 => ⟨S8, .i32⟩
  | 89 => ⟨S_, .i32⟩
  | 90 => ⟨S8, .i32⟩
  | 91 => ⟨S8, .i1⟩
  | 92 => ⟨S_, .i32⟩
  | 93 => ⟨S8, .i32⟩
  | 94 => ⟨S8, .i32⟩
  | 95 => ⟨S8, .i32⟩
  | 96 => ⟨S8x1, .i32⟩
  | 97 => ⟨S8x1, .i32⟩
  | 98 => ⟨S8x1, .i32⟩
  | 99 => ⟨S8x3, .i32⟩
  | 100 => ⟨S8, .f32⟩
  | 101 => ⟨S_, .i32⟩
  | 102 => ⟨S8, .i32⟩
  | 103 => ⟨S8, .i32⟩
  | 104 => ⟨S_, .i32⟩
  | 105 => ⟨S8, .i32⟩
  | 106 => ⟨S8, .i1⟩
  | 107 => ⟨S_, .i32⟩
  | 108 => ⟨S8, .i32⟩
  | 109 => ⟨S8, .i32⟩
  | 110 => ⟨S8, .i32⟩
  | 111 => ⟨S_, .i32⟩
  | 112 => ⟨S8, .i32⟩
  | 113 => ⟨S8, .i1⟩
  | 114 => ⟨S_, .i32⟩
  | 115 => ⟨S8, .i32⟩
  | 116 => ⟨S8, .i32⟩
  | 117 => ⟨S8, .i32⟩
  | 118 => ⟨S_, .i32⟩
  | 119 => ⟨S8, .i32⟩
  | 120 => ⟨S8, .i1⟩
  | 121 => ⟨S_, .i32⟩
  | 122 => ⟨S8, .i32⟩
  | 123 => ⟨S8, .i32⟩
  | 124 => ⟨S8, .i32⟩
  | 125 => ⟨S8x1, .i32⟩
  | 126 => ⟨S8x1, .i32⟩
  | 127 => ⟨S8x1, .i32⟩
  | _ => ⟨S8x200x101x512, .f32⟩

abbrev hbmTy0_2 (i : Nat) : BufTy := match i % 128 with
  | 0 => ⟨S8x3, .i32⟩
  | 1 => ⟨S8, .f32⟩
  | 2 => ⟨S8, .f32⟩
  | 3 => ⟨S8, .f32⟩
  | 4 => ⟨S_, .f32⟩
  | 5 => ⟨S_, .f32⟩
  | 6 => ⟨S_, .f32⟩
  | 7 => ⟨S_, .f32⟩
  | _ => ⟨S8x200x101x512, .f32⟩

abbrev hbmTy (i : Nat) : BufTy := match i / 128 with
  | 0 => hbmTy0_0 i
  | 1 => hbmTy0_1 i
  | 2 => hbmTy0_2 i
  | _ => ⟨S8x200x101x512, .f32⟩

abbrev bufTy : (tb : Table) → Fin (tcTables nBuf tb) → BufTy
  | .hbm, ⟨i, _⟩ => hbmTy i
  | _, _ => ⟨S8x200x101x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_c_0 : Ref sig .tc := ⟨.hbm, 58, rfl⟩
abbrev main_v17 : Ref sig .tc := ⟨.hbm, 59, rfl⟩
abbrev main_v18 : Ref sig .tc := ⟨.hbm, 60, rfl⟩
abbrev main_c_1 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_2 : Ref sig .tc := ⟨.hbm, 65, rfl⟩
abbrev main_c_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v22 : Ref sig .tc := ⟨.hbm, 72, rfl⟩
abbrev main_c_4 : Ref sig .tc := ⟨.hbm, 73, rfl⟩
abbrev main_v23 : Ref sig .tc := ⟨.hbm, 74, rfl⟩
abbrev main_v24 : Ref sig .tc := ⟨.hbm, 75, rfl⟩
abbrev main_c_5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_6 : Ref sig .tc := ⟨.hbm, 80, rfl⟩
abbrev main_v28 : Ref sig .tc := ⟨.hbm, 81, rfl⟩
abbrev main_v29 : Ref sig .tc := ⟨.hbm, 82, rfl⟩
abbrev main_c_7 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_8 : Ref sig .tc := ⟨.hbm, 105, rfl⟩
abbrev main_v47 : Ref sig .tc := ⟨.hbm, 106, rfl⟩
abbrev main_v48 : Ref sig .tc := ⟨.hbm, 107, rfl⟩
abbrev main_c_9 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_10 : Ref sig .tc := ⟨.hbm, 112, rfl⟩
abbrev main_c_11 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v52 : Ref sig .tc := ⟨.hbm, 119, rfl⟩
abbrev main_c_12 : Ref sig .tc := ⟨.hbm, 120, rfl⟩
abbrev main_v53 : Ref sig .tc := ⟨.hbm, 121, rfl⟩
abbrev main_v54 : Ref sig .tc := ⟨.hbm, 122, rfl⟩
abbrev main_c_13 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_c_14 : Ref sig .tc := ⟨.hbm, 127, rfl⟩
abbrev main_v58 : Ref sig .tc := ⟨.hbm, 128, rfl⟩
abbrev main_v59 : Ref sig .tc := ⟨.hbm, 129, rfl⟩
abbrev main_c_15 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_16 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v69 : Ref sig .tc := ⟨.hbm, 144, rfl⟩
abbrev main_cst_17 : Ref sig .tc := ⟨.hbm, 145, rfl⟩
abbrev main_v70 : Ref sig .tc := ⟨.hbm, 146, rfl⟩
abbrev main_c_18 : Ref sig .tc := ⟨.hbm, 147, rfl⟩
abbrev main_v71 : Ref sig .tc := ⟨.hbm, 148, rfl⟩
abbrev main_cst_19 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_cst_20 : Ref sig .tc := ⟨.hbm, 156, rfl⟩
abbrev main_v78 : Ref sig .tc := ⟨.hbm, 157, rfl⟩
abbrev main_c_21 : Ref sig .tc := ⟨.hbm, 158, rfl⟩
abbrev main_v79_0 : Ref sig .tc := ⟨.hbm, 159, rfl⟩
abbrev main_v79_1 : Ref sig .tc := ⟨.hbm, 160, rfl⟩
abbrev main_v79_2 : Ref sig .tc := ⟨.hbm, 161, rfl⟩
abbrev main_v79_3 : Ref sig .tc := ⟨.hbm, 162, rfl⟩
abbrev main_v79_4 : Ref sig .tc := ⟨.hbm, 163, rfl⟩
abbrev main_while0c_c_42 : Ref sig .tc := ⟨.hbm, 164, rfl⟩
abbrev main_while0c_v132 : Ref sig .tc := ⟨.hbm, 165, rfl⟩
abbrev main_while0b_call6_c : Ref sig .tc := ⟨.hbm, 166, rfl⟩
abbrev main_while0b_call6_c_0 : Ref sig .tc := ⟨.hbm, 167, rfl⟩
abbrev main_while0b_call6_v0 : Ref sig .tc := ⟨.hbm, 168, rfl⟩
abbrev main_while0b_v132 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_v0 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_v136 : Ref sig .tc := ⟨.hbm, 176, rfl⟩
abbrev main_while0b_cst_42 : Ref sig .tc := ⟨.hbm, 177, rfl⟩
abbrev main_while0b_call8_v0 : Ref sig .tc := ⟨.hbm, 178, rfl⟩
abbrev main_while0b_v137 : Ref sig .tc := ⟨.hbm, 179, rfl⟩
abbrev main_while0b_v138 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_v143 : Ref sig .tc := ⟨.hbm, 185, rfl⟩
abbrev main_while0b_v144 : Ref sig .tc := ⟨.hbm, 186, rfl⟩
abbrev main_while0b_v145 : Ref sig .tc := ⟨.hbm, 187, rfl⟩
abbrev main_while0b_v146 : Ref sig .tc := ⟨.hbm, 188, rfl⟩
abbrev main_while0b_v147 : Ref sig .tc := ⟨.hbm, 189, rfl⟩
abbrev main_while0b_call9_v0 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_v148 : Ref sig .tc := ⟨.hbm, 193, rfl⟩
abbrev main_while0b_c_43 : Ref sig .tc := ⟨.hbm, 194, rfl⟩
abbrev main_while0b_v149 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_c_22 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_c_23 : Ref sig .tc := ⟨.hbm, 203, rfl⟩
abbrev main_v86 : Ref sig .tc := ⟨.hbm, 204, rfl⟩
abbrev main_v87 : Ref sig .tc := ⟨.hbm, 205, rfl⟩
abbrev main_c_24 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_c_25 : Ref sig .tc := ⟨.hbm, 210, rfl⟩
abbrev main_v91 : Ref sig .tc := ⟨.hbm, 211, rfl⟩
abbrev main_v92 : Ref sig .tc := ⟨.hbm, 212, rfl⟩
abbrev main_c_26 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_c_27 : Ref sig .tc := ⟨.hbm, 217, rfl⟩
abbrev main_v96 : Ref sig .tc := ⟨.hbm, 218, rfl⟩
abbrev main_v97 : Ref sig .tc := ⟨.hbm, 219, rfl⟩
abbrev main_c_28 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_c_29 : Ref sig .tc := ⟨.hbm, 229, rfl⟩
abbrev main_v106 : Ref sig .tc := ⟨.hbm, 230, rfl⟩
abbrev main_v107 : Ref sig .tc := ⟨.hbm, 231, rfl⟩
abbrev main_c_30 : Ref sig .tc := ⟨.hbm, 232, rfl⟩
abbrev main_v108 : Ref sig .tc := ⟨.hbm, 233, rfl⟩
abbrev main_v109 : Ref sig .tc := ⟨.hbm, 234, rfl⟩
abbrev main_c_31 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_c_32 : Ref sig .tc := ⟨.hbm, 239, rfl⟩
abbrev main_v113 : Ref sig .tc := ⟨.hbm, 240, rfl⟩
abbrev main_v114 : Ref sig .tc := ⟨.hbm, 241, rfl⟩
abbrev main_c_33 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_c_34 : Ref sig .tc := ⟨.hbm, 246, rfl⟩
abbrev main_v118 : Ref sig .tc := ⟨.hbm, 247, rfl⟩
abbrev main_v119 : Ref sig .tc := ⟨.hbm, 248, rfl⟩
abbrev main_c_35 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_cst_36 : Ref sig .tc := ⟨.hbm, 260, rfl⟩
abbrev main_v130 : Ref sig .tc := ⟨.hbm, 261, rfl⟩
abbrev main_cst_37 : Ref sig .tc := ⟨.hbm, 262, rfl⟩
abbrev main_v131 : Ref sig .tc := ⟨.hbm, 263, rfl⟩

abbrev nD : Nat := 1
abbrev τ : Topo := Topo.v7x

variable {F : FTy → Type} [FloatOps F]

abbrev main_while0_count : Scf.Loop 32 := ⟨0#32, 299#32, 1#32⟩
-- ==== Proof.KernelIdeal.Body.lean ====
/-
  The body of the kernel's pallas_call, run once at a grid point, at any carrier of the floats: from the four input
  blocks and the five scratch buffers at anything, every access in range, the inputs unchanged.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first grid point: the accumulator is reset. -/
abbrev First (i : grid0.Coords) : Prop := Scalar.cmpi .ne (Scalar.extui (Scalar.cmpi .eq (BitVec.ofNat 32 (i 0).val) 0#32) : BitVec 32) 0#32 = 1#1
/-- A grid point before the last: a block of frames is staged. -/
abbrev Staging (i : grid0.Coords) : Prop := Scalar.cmpi .ne (Scalar.extui (Scalar.cmpi .slt (BitVec.ofNat 32 (i 0).val) 25#32) : BitVec 32) 0#32 = 1#1
/-- The last grid point: the result is written. -/
abbrev Last (i : grid0.Coords) : Prop := k0_cond3 i = 1#1

theorem sound_kernel (c : Dev nD) (E : Set ℕ) (i : grid0.Coords)
    (arg1 : Memref sig .tc .vmem S8x8x101x512 .f32) (harg1 : arg1.IsWhole) (arg2 : Memref sig .tc .vmem S8x101 .i32) (harg2 : arg2.IsWhole)
    (arg3 : Memref sig .tc .vmem S8x1 .i32) (harg3 : arg3.IsWhole) (arg4 : Memref sig .tc .vmem S8x1 .i32) (harg4 : arg4.IsWhole)
    (arg5 : Memref sig .tc .vmem S1x1 .f32) (harg5 : arg5.IsWhole) (arg6 : Memref sig .tc .vmem S8x101 .f32) (harg6 : arg6.IsWhole)
    (arg7 : Memref sig .tc .vmem S8x101 .f32) (harg7 : arg7.IsWhole) (arg8 : Memref sig .tc .vmem S8x1 .f32) (harg8 : arg8.IsWhole)
    (arg9 : Memref sig .tc .vmem S8x8x101 .f32) (harg9 : arg9.IsWhole) (arg10 : Memref sig .tc .vmem S8x8x101 .f32) (harg10 : arg10.IsWhole)
    (x1 : Vec F S8x8x101x512 .f32) (x2 : Vec F S8x101 .i32) (x3 : Vec F S8x1 .i32) (x4 : Vec F S8x1 .i32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)) -∗ K ⟨⟩))
      ⊢ wp frame (wpE (defs₀ (F := F)) Variants.none c none) E
        (cc0__lambda_ i arg1 harg1 arg2 harg2 arg3 harg3 arg4 harg4 arg5 harg5 arg6 harg6 arg7 harg7 arg8 harg8 arg9 harg9 arg10 harg10) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4
  by_cases h1 : First i <;> by_cases h2 : Staging i <;> by_cases h3 : Last i
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    · iexists _; iexists _; isplitr; swap; · iexact H10
      ipureintro; rfl

end Cert.Proof.KernelIdeal

end
-- ==== Proof.KernelIdeal.Frame.lean ====
/-
  The frame of the program: every run of @main terminates, leaves the argument arrays as they were and every counter at
  zero. The scratch buffers are at anything from one grid point to the next, and what the result's window holds is not said.
-/
module

public import proofs.«01_k».proof.Proof.KernelIdeal.Body

@[expose] public section

set_option maxRecDepth 16384

noncomputable section

namespace Cert.Proof.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Only the result's window is left unsaid. -/
abbrev fgt : Fin cfg0.W → Bool := fun w => w.val == 4

/-- Proof data saying the input windows hold their blocks; the scratch buffers are part of the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a grid point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩⟩, HP⟩, Ho, ⟨%d0, H0⟩, ⟨%d1, H1⟩, ⟨%d2, H2⟩, ⟨%d3, H3⟩, H4⟩
  iapply (sound_kernel c Set.univ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, S0, S1, S2, S3, S4⟩
  isplitl [S0 S1 S2 S3 S4 HP]
  · isplitr [HP]; swap; · iexact HP
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  iexact H4

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The one buffer written after the region: the reshaped result. -/
theorem tail_writes : ∀ ops ∈ ([hostOps1] : List (List (HloOp τ sig (Elt F)))), ∀ op ∈ ops, ∀ b : Ref sig .tc,
    Proc.devRef .tc b ∈ op.writes → b ∈ ({main_v10} : Finset (Ref sig .tc)) := by
  intro ops hops op hop b hb
  rw [List.mem_singleton.1 hops] at hop
  rw [List.mem_singleton.1 hop] at hb
  exact Finset.mem_singleton.2 (Proc.devRef_injective .tc (Finset.mem_singleton.1 hb))

set_option backward.isDefEq.respectTransparency.types false in
theorem run_main : θ_run defs (onTc (τ := τ) (main (F := F))) (s₀ m ρ)
    (fun r => (Pipeline.RDat.FramePostR cfg0 (fun c => (dats m 0 c).toRForget fgt) {main_v10} (fun c b => V0 m c (Proc.devRef .tc b))) r ∧ r.2.sem = fun _ => 0) :=
  Pipeline.θ_run_frame_around_T_forget (Q' := _) cfgs (dats m) (0 : Fin 1) launch0 defs₀ Variants.none fgt {main_v10} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- The frame, at any carrier. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    have hin := (h.1 c).1
    have hrest := (h.1 c).2
    refine ⟨?_, ?_, ?_, ?_⟩
    · have := ((dats m 0 c).toRForget_arrAt_iff (fgt := fgt) (w := 0) rfl cfg0.N _).1 (hin 0)
      exact this.trans (((dats m 0 c).arrAt_in 0 rfl _).trans ((A_eq m c 0).trans (V_main_arg0 m c)))
    · exact (hrest main_arg1 (by decide)).trans (V_main_arg1 m c)
    · exact (hrest main_arg2 (by decide)).trans (V_main_arg2 m c)
    · exact (hrest main_arg3 (by decide)).trans (V_main_arg3 m c), h.2⟩) (run_main m ρ)

end Cert.Proof.KernelIdeal.Loose

end
-- ==== Proof.ReferenceIdeal.Run.lean ====
/-
  The run of the reference with its counters: the stretches and the counted loop as segments that carry the TensorCore's
  unscoped counters (at zero) beside the buffers, so that the final state gives both the fold of every buffer and every
  counter at zero.
-/
module

public import proofs.«01_k».proof.Proof.Gen.ReferenceIdeal.Run
public import Idealize.ShloMosaic.Lib.Pipeline.Quiescent
public import Idealize.ShloMosaic.Lib.Claim

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (PCfg Ticket CSeg ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-- What rides along beside the buffers: the unscoped counters at zero, and nothing owed. -/
abbrev beside (c : Dev nD) : sProp 𝕄 :=
  iprop(unscopedSems0 c ∗ ∃ W, owes (c : Thread nD τ) (0 : CellTallies nD τ sig Unit) W)

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0

/-- The loop's condition, what rides along framed through it. -/
theorem loop_cond : LoopCond (pcfgs (F := F)) defs₀ Variants.none loops (beside (F := F)) main_while0_cond condOps bodyI (entryContents preI m) 299 := by
  intro k hk c bd
  have hpost : ∀ v : Elt F .i1,
      iprop(iprop(⌜v = 1#1 ↔ k < 299⌝ ∗ boundary (c : Thread nD τ) ∗ held (c : Thread nD τ) (ucRefs τ sig) (after condOps (atTrip condOps bodyI (entryContents preI m) k c))) ∗ beside c)
        ⊢ (iprop(⌜v = 1#1 ↔ k < 299⌝ ∗ boundary (c : Thread nD τ) ∗ held (c : Thread nD τ) (ucRefs τ sig) (after condOps (atTrip condOps bodyI (entryContents preI m) k c)) ∗ beside c) : sProp 𝕄) := fun v => by
    iintro ⟨⟨%hv, Hb, Hh⟩, HR⟩
    isplitr; · ipureintro; exact hv
    isplitl [Hb]; · iexact Hb
    isplitl [Hh] <;> iassumption
  refine BIBase.Entails.trans ?_ (((sep_mono_left (cond_spec m k hk c bd)).trans (wp_frame_r _ _ _)).trans (wp_mono _ _ _ hpost))
  iintro ⟨Hb, Hh, HR⟩
  isplitl [Hb Hh]; · isplitl [Hb] <;> iassumption
  iexact HR

/-- The program as segments: before the loop, the loop, after it. -/
def segs : List (CSeg (pcfgs (F := F)) noAdm defs₀ Variants.none noL noLv loops noTk) :=
  segsOf _ _ _ _ _ _ _ _ beside preI hpre (launchContents m)
    ++ loopSeg _ _ _ _ _ _ _ _ 0 main_while0_cond main_while0_body rfl condOps bodyI hbodyI (by rw [while0_body_chain]; rfl) 299
        (entryContents preI m) beside (loop_cond m)
      :: segsOf _ _ _ _ _ _ _ _ beside postI hpost (fun c => after condOps (atTrip condOps bodyI (entryContents preI m) 299 c))

theorem segs_prog : (segs m).map CSeg.prog
    = (preI.map fun ops => (seq ops : Prog _ PUnit)) ++ HostLoop.enter 0 :: (postI (F := F)).map fun ops => (seq ops : Prog _ PUnit) := by
  unfold segs
  rw [List.map_append, List.map_cons, segsOf_prog, segsOf_prog]
  rfl

theorem segs_chain : CSeg.Chains (fun c => iprop(held (c : Thread nD τ) (ucRefs τ sig) (launchContents m c) ∗ beside c)) (segs m)
    (fun c => iprop(iprop(held (c : Thread nD τ) (ucRefs τ sig) (finalContents condOps preI bodyI postI 299 m c) ∗ unscopedSems0 c)
      ∗ ∃ W, owes (c : Thread nD τ) (0 : CellTallies nD τ sig Unit) W)) := by
  have h : CSeg.Chains (fun c => iprop(held (c : Thread nD τ) (ucRefs τ sig) (launchContents m c) ∗ beside c)) (segs m)
      (fun c => iprop(held (c : Thread nD τ) (ucRefs τ sig) (finalContents condOps preI bodyI postI 299 m c) ∗ beside c)) := by
    unfold segs
    exact CSeg.Chains.append (segsOf_chains _ _ _ _ _ _ _ _ beside preI hpre _) ⟨fun _ => .rfl, segsOf_chains _ _ _ _ _ _ _ _ beside postI hpost _⟩
  refine CSeg.Chains.mono_right (fun c => ?_) _ _ h
  iintro ⟨Hh, HS, HO⟩
  isplitl [Hh HS]; · isplitl [Hh] <;> iassumption
  iexact HO

set_option maxRecDepth 100000 in
theorem main_eq (c : Dev nD) : main (F := F) c = Pipeline.chain ((preI.map fun ops => (seq ops : Prog _ PUnit)) ++ HostLoop.enter 0 :: postI.map fun ops => (seq ops : Prog _ PUnit)) := by
  rw [main_chain]; rfl

set_option maxRecDepth 100000 in
/-- Every run terminates with every unscoped buffer at the fold and every counter at zero. -/
theorem run_fold_sems : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 299 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (segs m)
    (fun c Q => by
      rw [main_eq c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ beside c))
    (Tₙ := fun c => iprop(held (c : Thread nD τ) (ucRefs τ sig) (finalContents condOps preI bodyI postI 299 m c) ∗ unscopedSems0 c))
    (hch := segs_chain m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, HS, HO, -, -, -⟩, -⟩
      imodintro
      isplitl [Hh]; · iexact Hh
      isplitl [HS]; · iexact HS
      iexists ∅; iexact HO)
    (QY := fun c s => (∀ b ∈ ucRefs τ sig, s.mem ((c : Dev nD), b) = finalContents condOps preI bodyI postI 299 m c b)
      ∧ ∀ sm : SemLoc sig, sm.isScoped .tc = false → s.sem ((c.tc : Thread nD τ), sm) = 0)
    (hfin := fun c s' => by
      unfold held
      iintro ⟨⟨Hh, HS⟩, HSI⟩
      ihave Hr := (pointsTo_read_all (ucRefs τ sig) (fun b => ((c : Dev nD), b)) (fun b => finalContents condOps preI bodyI postI 299 m c b) s') $$ [Hh HSI]
      · isplitl [Hh] <;> iassumption
      icases Hr with ⟨%h, HSI⟩
      ihave %hs := (tcUnscoped_read (nD := nD) (τ := τ) (sig := sig) (Val := Elt F) c s') $$ [HS HSI]
      · isplitl [HS] <;> iassumption
      imodintro
      isplitr; · ipureintro; exact ⟨h, hs⟩
      iexact HSI)
    (hQ := fun s h hs => ⟨fun c b hb => (h c).1 _ (devRef_mem_ucRefs b hb), funext fun g => by
      by_cases hg : g.1.2 ≠ .tc ∨ g.2.isScoped .tc = true
      · exact hs g hg
      · obtain ⟨⟨c, p⟩, sm⟩ := g
        simp only [not_or, not_not, Bool.not_eq_true] at hg
        obtain ⟨rfl, h2⟩ := hg
        exact (h c).2 sm h2⟩)

end Cert.Proof.ReferenceIdeal

end
-- ==== Proof.ReferenceIdeal.Frame.lean ====
/-
  The frame of the reference: no operation of its stretches, of its loop's condition or of a trip writes an argument
  array, so all four end as they began, every counter at zero.
-/
module

public import proofs.«01_k».proof.Proof.ReferenceIdeal.Run

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- A buffer none of the listed stretches writes keeps its contents through them. -/
theorem afterL_keep {b : DevRef τ sig} : ∀ (items : List (List (HloOp τ sig (Elt F)))) (V : Valuation τ sig (Elt F)),
    (∀ ops ∈ items, ∀ V' : Valuation τ sig (Elt F), after ops V' b = V' b) → afterL items V b = V b
  | [], _, _ => rfl
  | ops :: rest, V, h => by
    rw [afterL_cons, afterL_keep rest _ fun o ho => h o (List.mem_cons_of_mem _ ho), h ops List.mem_cons_self]

/-- The four argument arrays. -/
abbrev argRefs : List (Ref sig .tc) := [main_arg0, main_arg1, main_arg2, main_arg3]

/-- The stretches before the loop keep the arguments. -/
theorem pre_keep (r : Ref sig .tc) (hr : r ∈ argRefs) (V : Valuation τ sig (Elt F)) : afterL preI V (Proc.devRef .tc r) = V (Proc.devRef .tc r) := by
  refine afterL_keep _ _ fun ops ho V' => ?_
  simp only [preI, List.mem_cons, List.not_mem_nil, or_false] at ho
  simp only [argRefs, List.mem_cons, List.not_mem_nil, or_false] at hr
  rcases ho with rfl | rfl | rfl | rfl | rfl | rfl | rfl | rfl | rfl | rfl | rfl | rfl | rfl
  · exact after_of_writes_sub _ _ hostOps0_writes (by rcases hr with rfl | rfl | rfl | rfl <;> decide)
  · exact after_of_writes_sub _ _ hostOps0_1_writes (by rcases hr with rfl | rfl | rfl | rfl <;> decide)
  · exact after_of_writes_sub _ _ hostOps0_2_writes (by rcases hr with rfl | rfl | rfl | rfl <;> decide)
  · exact after_of_writes_sub _ _ hostOps0_3_writes (by rcases hr with rfl | rfl | rfl | rfl <;> decide)
  · exact after_of_writes_sub _ _ hostOps0_4_writes (by rcases hr with rfl | rfl | rfl | rfl <;> decide)
  · exact after_of_writes_sub _ _ hostOps0_5_writes (by rcases hr with rfl | rfl | rfl | rfl <;> decide)
  · exact after_of_writes_sub _ _ hostOps0_6_writes (by rcases hr with rfl | rfl | rfl | rfl <;> decide)
  · exact after_of_writes_sub _ _ hostOps0_7_writes (by rcases hr with rfl | rfl | rfl | rfl <;> decide)
  · exact after_of_writes_sub _ _ hostOps0_8_writes (by rcases hr with rfl | rfl | rfl | rfl <;> decide)
  · exact after_of_writes_sub _ _ hostOps0_9_writes (by rcases hr with rfl | rfl | rfl | rfl <;> decide)
  · exact after_of_writes_sub _ _ hostOps0_10_writes (by rcases hr with rfl | rfl | rfl | rfl <;> decide)
  · exact after_of_writes_sub _ _ hostOps0_11_writes (by rcases hr with rfl | rfl | rfl | rfl <;> decide)
  · exact after_of_writes_sub _ _ hostOps0_12_writes (by rcases hr with rfl | rfl | rfl | rfl <;> decide)

/-- A trip keeps the arguments. -/
theorem trip_keep (r : Ref sig .tc) (hr : r ∈ argRefs) (V : Valuation τ sig (Elt F)) : afterL bodyI V (Proc.devRef .tc r) = V (Proc.devRef .tc r) := by
  refine afterL_keep _ _ fun ops ho V' => ?_
  simp only [bodyI, List.mem_cons, List.not_mem_nil, or_false] at ho
  simp only [argRefs, List.mem_cons, List.not_mem_nil, or_false] at hr
  rcases ho with rfl | rfl | rfl | rfl | rfl | rfl | rfl
  · exact after_of_writes_sub _ _ while0Ops0_writes (by rcases hr with rfl | rfl | rfl | rfl <;> decide)
  · exact after_of_writes_sub _ _ while0Ops0_1_writes (by rcases hr with rfl | rfl | rfl | rfl <;> decide)
  · exact after_of_writes_sub _ _ while0Ops0_2_writes (by rcases hr with rfl | rfl | rfl | rfl <;> decide)
  · exact after_of_writes_sub _ _ while0Ops0_3_writes (by rcases hr with rfl | rfl | rfl | rfl <;> decide)
  · exact after_of_writes_sub _ _ while0Ops0_4_writes (by rcases hr with rfl | rfl | rfl | rfl <;> decide)
  · exact after_of_writes_sub _ _ while0Ops0_5_writes (by rcases hr with rfl | rfl | rfl | rfl <;> decide)
  · exact after_of_writes_sub _ _ while0Ops0_6_writes (by rcases hr with rfl | rfl | rfl | rfl <;> decide)

/-- The condition keeps the arguments. -/
theorem cond_keep (r : Ref sig .tc) (hr : r ∈ argRefs) (V : Valuation τ sig (Elt F)) : after condOps V (Proc.devRef .tc r) = V (Proc.devRef .tc r) := by
  simp only [argRefs, List.mem_cons, List.not_mem_nil, or_false] at hr
  exact after_of_writes_sub _ _ condOps_writes (by rcases hr with rfl | rfl | rfl | rfl <;> decide)

/-- Every buffer the last stretch writes lies past the arguments. -/
theorem post_keep (r : Ref sig .tc) (hr : r ∈ argRefs) (V : Valuation τ sig (Elt F)) : afterL postI V (Proc.devRef .tc r) = V (Proc.devRef .tc r) := by
  refine afterL_keep _ _ fun ops ho V' => ?_
  simp only [postI, List.mem_cons, List.not_mem_nil, or_false] at ho
  subst ho
  refine after_of_forall_not_mem _ _ (List.forall_iff_forall_mem.mp ?_)
  simp only [argRefs, List.mem_cons, List.not_mem_nil, or_false] at hr
  simp only [hostOps0_13, List.Forall, nullary_writes, unary_writes, binary_writes, ternary_writes, quaternary_writes, reshape_writes, binaryIndexed_writes, nary_writes, unaryIndexed_writes, Finset.mem_singleton]
  rcases hr with rfl | rfl | rfl | rfl <;> (repeat' apply And.intro) <;> exact devRef_ne_of_ne (by decide)

/-- The whole fold keeps the arguments. -/
theorem final_keep (m : (ℓ : Loc nD τ sig) → Buf (Elt F) ℓ) (c : Dev nD) (r : Ref sig .tc) (hr : r ∈ argRefs) :
    finalContents condOps preI bodyI postI 299 m c (Proc.devRef .tc r) = m ((c.tc : Thread nD τ).loc r) := by
  have hloop : ∀ k, atK m k c (Proc.devRef .tc r) = m ((c.tc : Thread nD τ).loc r) := fun k => by
    induction k with
    | zero => exact pre_keep r hr _
    | succ k ih =>
      rw [show atK m (k + 1) c = afterL bodyI (after condOps (atK m k c)) from rfl, trip_keep r hr, cond_keep r hr, ih]
  exact (post_keep r hr _).trans ((cond_keep r hr _).trans (hloop 299))

/-- The reference runs, its arguments unchanged, every counter at zero. -/
theorem frame (m : (ℓ : Loc nD τ sig) → Buf (Elt F) ℓ) (ρ : Dev nD → PrngReg) :
    θ_run (defs (F := F)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  run_from run_fold_sems m ρ
  intro c
  exact ⟨final_keep m c _ (by simp), final_keep m c _ (by simp), final_keep m c _ (by simp), final_keep m c _ (by simp)⟩

end Cert.Proof.ReferenceIdeal

end
-- ==== Proof.Math.Lattice.lean ====
/-
  The mathematics of the loss, free of any program: weights kept as nonnegative reals behind a logarithm that sends zero
  to −∞, the log-sum of two of them, the lattice recursion, its row form through prefix sums, its diagonal form, and
  window sums by doubling.
-/
module

public import Idealize.ShloMosaic.Lib.Claim
public import Idealize.ShloMosaic.Lib.Pointwise

@[expose] public section

noncomputable section

namespace Cert.Proof.Lattice

open Idealize.ShloMosaic

/-! ## The logarithm of a weight -/

/-- The logarithm of a real weight: −∞ at zero (and below). -/
def Lg (x : ℝ) : EReal := Ideal.log (x : EReal)

theorem Lg_zero : Lg 0 = ⊥ := by
  change (if (0 : ℝ) ≤ 0 then (⊥ : EReal) else _) = ⊥
  exact if_pos le_rfl

theorem Lg_pos {x : ℝ} (h : 0 < x) : Lg x = (Real.log x : EReal) := by
  change (if x ≤ 0 then (⊥ : EReal) else _) = _
  exact if_neg (not_le.2 h)

theorem Lg_one : Lg 1 = 0 := by rw [Lg_pos one_pos, Real.log_one]; rfl

/-- A real added to the logarithm of a weight scales the weight. -/
theorem Lg_add {x : ℝ} (h : 0 ≤ x) (r : ℝ) : Lg x + (r : EReal) = Lg (x * Real.exp r) := by
  rcases h.eq_or_lt with rfl | h
  · rw [zero_mul, Lg_zero, EReal.bot_add]
  · rw [Lg_pos h, Lg_pos (mul_pos h (Real.exp_pos r)), Real.log_mul h.ne' (Real.exp_pos r).ne', Real.log_exp, EReal.coe_add]

theorem add_Lg {x : ℝ} (h : 0 ≤ x) (r : ℝ) : (r : EReal) + Lg x = Lg (Real.exp r * x) := by
  rw [add_comm, Lg_add h, mul_comm]

theorem Lg_sub {x : ℝ} (h : 0 ≤ x) (r : ℝ) : Lg x - (r : EReal) = Lg (x * Real.exp (-r)) := by
  rw [sub_eq_add_neg, ← EReal.coe_neg, Lg_add h]

/-- The log-sum of two extended reals, as a maximum and a correction. -/
def lse2 (a b : EReal) : EReal := max a b + Ideal.log1p (Ideal.exp (-(max (a - b) (-(a - b)))))

theorem log1p_coe {r : ℝ} (h : 0 ≤ r) : Ideal.log1p (r : EReal) = (Real.log (1 + r) : EReal) := by
  have : Ideal.log1p (r : EReal) = Lg (1 + r) := by
    rw [Ideal.log1p, Lg, EReal.coe_add]; rfl
  rw [this, Lg_pos (by linarith)]

/-- With no difference left the correction vanishes. -/
theorem corr_top : Ideal.log1p (Ideal.exp (-(⊤ : EReal))) = 0 := by
  have : Ideal.exp (-(⊤ : EReal)) = ((0 : ℝ) : EReal) := rfl
  rw [this, log1p_coe le_rfl, add_zero, Real.log_one]; rfl

/-- The log-sum over two positive weights. -/
theorem real_lse {x y : ℝ} (hx : 0 < x) (hxy : x ≤ y) :
    Real.log y + Real.log (1 + Real.exp (-(Real.log y - Real.log x))) = Real.log (x + y) := by
  have hy : 0 < y := hx.trans_le hxy
  rw [neg_sub, Real.exp_sub, Real.exp_log hx, Real.exp_log hy, ← Real.log_mul hy.ne' (by positivity)]
  congr 1
  field_simp
  ring

theorem lse2_Lg {x y : ℝ} (hx : 0 ≤ x) (hy : 0 ≤ y) : lse2 (Lg x) (Lg y) = Lg (x + y) := by
  rcases hx.eq_or_lt with rfl | hx
  · rw [zero_add, lse2, Lg_zero, max_eq_right bot_le]
    rcases hy.eq_or_lt with rfl | hy
    · rw [Lg_zero, EReal.bot_add]
    · rw [Lg_pos hy, EReal.bot_sub, EReal.neg_bot, max_eq_right bot_le, corr_top, add_zero]
  · rcases hy.eq_or_lt with rfl | hy
    · rw [add_zero, lse2, Lg_zero, max_eq_left bot_le, Lg_pos hx, EReal.coe_sub_bot, max_eq_left le_top, corr_top, add_zero]
    · rw [lse2, Lg_pos hx, Lg_pos hy, Lg_pos (add_pos hx hy), ← EReal.coe_sub, ← EReal.coe_neg]
      rcases le_total x y with h | h
      · have hl : Real.log x ≤ Real.log y := Real.log_le_log hx h
        rw [max_eq_right (EReal.coe_le_coe_iff.2 hl), max_eq_right (EReal.coe_le_coe_iff.2 (by linarith)), ← EReal.coe_neg]
        change _ + Ideal.log1p ((Real.exp _ : ℝ) : EReal) = _
        rw [log1p_coe (Real.exp_pos _).le, ← EReal.coe_add, neg_sub (Real.log x), real_lse hx h]
      · have hl : Real.log y ≤ Real.log x := Real.log_le_log hy h
        rw [max_eq_left (EReal.coe_le_coe_iff.2 hl), max_eq_left (EReal.coe_le_coe_iff.2 (by linarith)), ← EReal.coe_neg]
        change _ + Ideal.log1p ((Real.exp _ : ℝ) : EReal) = _
        rw [log1p_coe (Real.exp_pos _).le, ← EReal.coe_add, real_lse hy h, add_comm y]

/-! ## Sums of real scores -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The log of the sum of the exponentials of real scores. -/
def lse (y : Fin 512 → ℝ) : ℝ := Real.log (∑ v, Real.exp (y v))

theorem sum_exp (y : Fin 512 → ℝ) : ∑ v, Ideal.exp ((y v : ℝ) : EReal) = ((∑ v, Real.exp (y v) : ℝ) : EReal) := by
  rw [coe_sum]
  rfl

theorem log_sum_exp (y : Fin 512 → ℝ) : Ideal.log (∑ v, Ideal.exp ((y v : ℝ) : EReal)) = ((lse y : ℝ) : EReal) := by
  rw [sum_exp]
  exact Lg_pos (Finset.sum_pos (fun v _ => Real.exp_pos _) ⟨0, Finset.mem_univ _⟩)

/-! ## Window sums by doubling -/

/-- The sum of the last `k` entries up to `u` (fewer near the start). -/
def win (f : ℕ → ℝ) (k u : ℕ) : ℝ := ∑ j ∈ Finset.range k, if j ≤ u then f (u - j) else 0

theorem win_one (f : ℕ → ℝ) (u : ℕ) : win f 1 u = f u := by simp [win]

/-- A window twice as long is the window beside itself shifted by its length. -/
theorem win_double (f : ℕ → ℝ) (k u : ℕ) : win f (k + k) u = win f k u + if k ≤ u then win f k (u - k) else 0 := by
  rw [win, Finset.sum_range_add]
  congr 1
  split_ifs with h
  · refine Finset.sum_congr rfl fun j _ => ?_
    by_cases hj : j ≤ u - k
    · rw [if_pos hj, if_pos (by omega), Nat.sub_sub]
    · rw [if_neg hj, if_neg (by omega)]
  · exact Finset.sum_eq_zero fun j _ => if_neg (by omega)

/-- A window reaching the start is the prefix sum. -/
theorem win_full (f : ℕ → ℝ) {k u : ℕ} (h : u < k) : win f k u = ∑ v ∈ Finset.range (u + 1), f v := by
  obtain ⟨n, rfl⟩ : ∃ n, k = (u + 1) + n := ⟨k - (u + 1), by omega⟩
  rw [win, Finset.sum_range_add, Finset.sum_eq_zero (s := Finset.range n) fun j _ => if_neg (by omega), add_zero,
    ← Finset.sum_range_reflect]
  refine Finset.sum_congr rfl fun j hj => ?_
  have := Finset.mem_range.1 hj
  rw [if_pos (by omega)]
  congr 1
  omega

theorem win_nonneg {f : ℕ → ℝ} (hf : ∀ u, 0 ≤ f u) (k u : ℕ) : 0 ≤ win f k u :=
  Finset.sum_nonneg fun j _ => by split_ifs; exacts [hf _, le_rfl]

/-! ## The lattice -/

variable (bl em : ℕ → ℕ → ℝ)

/-- The weight of reaching frame `t` with `u` labels emitted: from the frame before by a blank, from the label before by
    an emission. -/
def alpha : ℕ → ℕ → ℝ
  | 0, 0 => 1
  | t + 1, 0 => alpha t 0 * Real.exp (bl t 0)
  | 0, u + 1 => alpha 0 u * Real.exp (em 0 u)
  | t + 1, u + 1 => alpha t (u + 1) * Real.exp (bl t (u + 1)) + alpha (t + 1) u * Real.exp (em (t + 1) u)

/-- What a row starts from: the row before it, stepped by its blanks; at the first row, the origin. -/
def start : ℕ → ℕ → ℝ
  | 0, u => if u = 0 then 1 else 0
  | t + 1, u => alpha bl em t u * Real.exp (bl t u)

theorem alpha_zero (t : ℕ) : alpha bl em t 0 = start bl em t 0 := by
  cases t <;> simp [alpha, start]

theorem alpha_succ (t u : ℕ) : alpha bl em t (u + 1) = start bl em t (u + 1) + alpha bl em t u * Real.exp (em t u) := by
  cases t <;> simp [alpha, start]

theorem alpha_pos : ∀ t u, 0 < alpha bl em t u
  | 0, 0 => by rw [alpha]; exact one_pos
  | t + 1, 0 => by rw [alpha]; exact mul_pos (alpha_pos t 0) (Real.exp_pos _)
  | 0, u + 1 => by rw [alpha]; exact mul_pos (alpha_pos 0 u) (Real.exp_pos _)
  | t + 1, u + 1 => by
    rw [alpha]
    exact add_pos (mul_pos (alpha_pos t (u + 1)) (Real.exp_pos _)) (mul_pos (alpha_pos (t + 1) u) (Real.exp_pos _))

theorem start_nonneg (t u : ℕ) : 0 ≤ start bl em t u := by
  cases t with
  | zero => rw [start]; split_ifs <;> norm_num
  | succ t => exact mul_nonneg (alpha_pos bl em t u).le (Real.exp_pos _).le

/-- The prefix sums of a row's emissions, the entry itself left out. -/
def pre (t u : ℕ) : ℝ := ∑ v ∈ Finset.range u, em t v

/-- A row of the lattice from what it starts from, through the prefix sums of its emissions. -/
theorem alpha_row (t u : ℕ) :
    alpha bl em t u = Real.exp (pre em t u) * ∑ v ∈ Finset.range (u + 1), start bl em t v * Real.exp (-(pre em t v)) := by
  induction u with
  | zero => simp [alpha_zero, pre]
  | succ u ih =>
    rw [alpha_succ, ih, Finset.sum_range_succ _ (u + 1), mul_add]
    have h : pre em t (u + 1) = pre em t u + em t u := Finset.sum_range_succ _ _
    have h1 : Real.exp (pre em t (u + 1)) * Real.exp (-(pre em t (u + 1))) = 1 := by
      rw [← Real.exp_add, add_neg_cancel, Real.exp_zero]
    rw [mul_left_comm, h1, mul_one, h, Real.exp_add]
    ring

/-! ## The diagonals -/

/-- Diagonal `d` of the lattice at label `u`: zero where the frame would be negative. -/
def diag (d u : ℕ) : ℝ := if u ≤ d then alpha bl em (d - u) u else 0

theorem diag_nonneg (d u : ℕ) : 0 ≤ diag bl em d u := by
  unfold diag; split_ifs; exacts [(alpha_pos bl em _ _).le, le_rfl]

theorem diag_zero (u : ℕ) : diag bl em 0 u = if u = 0 then 1 else 0 := by
  unfold diag
  by_cases h : u = 0
  · subst h; simp [alpha]
  · rw [if_neg (by omega), if_neg h]

/-- The next diagonal at label zero. -/
theorem diag_succ_zero (d : ℕ) : diag bl em (d + 1) 0 = diag bl em d 0 * Real.exp (bl d 0) := by
  simp [diag, alpha]

/-- The next diagonal at a later label: a blank from the same label (where the frame before exists), an emission from the
    label before. -/
theorem diag_succ_succ (d u : ℕ) : diag bl em (d + 1) (u + 1)
    = (if u + 1 ≤ d then diag bl em d (u + 1) * Real.exp (bl (d - (u + 1)) (u + 1)) else 0)
      + (if u ≤ d then diag bl em d u * Real.exp (em (d - u) u) else 0) := by
  unfold diag
  by_cases h : u ≤ d
  · rw [if_pos (by omega), if_pos h, Nat.add_sub_add_right]
    rw [if_pos h]
    by_cases h' : u + 1 ≤ d
    · rw [if_pos h', if_pos h']
      obtain ⟨k, rfl⟩ : ∃ k, d = u + 1 + k := ⟨d - (u + 1), by omega⟩
      rw [show u + 1 + k - u = k + 1 by omega, show u + 1 + k - (u + 1) = k by omega, alpha]
    · rw [if_neg h', zero_add]
      obtain rfl : d = u := by omega
      rw [Nat.sub_self, alpha]
  · rw [if_neg (by omega), if_neg (by omega), if_neg h, add_zero]

end Cert.Proof.Lattice

end
-- ==== Proof.Math.Data.lean ====
/-
  The problem's arguments as plain mathematics: real logits, labels below the vocabulary's size, the last frame and the last
  label position of each batch; and the loss as a function of them.
-/
module

public import proofs.«01_k».proof.Proof.Math.Lattice
public import proofs.«01_k».proof.Defs
public import Idealize.ShloMosaic.Lib.Pipeline.ValueKit

@[expose] public section

noncomputable section

namespace Cert.Proof

open Idealize.ShloMosaic
open Cert.KernelIdeal (S8x200x101x512 S8x101 S8)
open Cert.Proof.Lattice

/-- Arguments in range. `L k u` is the label emitted between the positions u and u+1, `T k` the last frame, `U k` the last
    position of batch k. -/
structure Data where
  X : Fin 8 → ℕ → ℕ → Fin 512 → ℝ
  L : Fin 8 → ℕ → Fin 512
  T : Fin 8 → ℕ
  U : Fin 8 → ℕ
  hT : ∀ k, T k < 200
  hU : ∀ k, U k < 101
  hL : ∀ k, L k 100 = 0

namespace Data

variable (D : Data)

/-- Blank log-probability at frame t, position u. -/
def bl (k : Fin 8) (t u : ℕ) : ℝ := D.X k t u 0 - lse (D.X k t u)

/-- Log-probability of the label leaving position u at frame t. -/
def em (k : Fin 8) (t u : ℕ) : ℝ := D.X k t u (D.L k u) - lse (D.X k t u)

/-- The log-likelihood of batch k. -/
def ll (k : Fin 8) : ℝ :=
  Real.log (alpha (D.bl k) (D.em k) (D.T k) (D.U k)) + D.bl k (D.T k) (D.U k)

/-- The mean of the negated log-likelihoods. -/
def loss : ℝ := (∑ k, -D.ll k) / 8

end Data

theorem eight : Ideal.ofBits .f32 0x41000000#32 = ((8 : ℝ) : EReal) := by
  simp [Ideal.ofBits, Ideal.ieee, -EReal.coe_mul]; norm_num

/-- A real divided by eight. -/
theorem div_eight (r : ℝ) : Ideal.div (r : EReal) (Ideal.ofBits .f32 0x41000000#32) = ((r / 8 : ℝ) : EReal) := by
  rw [eight, Ideal.div, if_neg (by rw [← EReal.coe_zero, EReal.coe_eq_coe_iff]; norm_num), ← EReal.coe_inv, ← EReal.coe_mul, div_eq_mul_inv]

/-- The four arrays hold the data. -/
structure IsData (D : Data) (a0 : FVec Ideal S8x200x101x512 .f32) (a1 : IVec S8x101 32) (a2 a3 : IVec S8 32) : Prop where
  logits : ∀ (k : Fin 8) (t : Fin 200) (u : Fin 101) (v : Fin 512), a0 (ix4 k t u v) = ((D.X k t u v : ℝ) : EReal)
  labels : ∀ (k : Fin 8) (u : Fin 101) (h : u.val < 100), a1 (ix2 k (⟨u.val + 1, by omega⟩ : Fin 101)) = BitVec.ofNat 32 (D.L k u).val
  frames : ∀ k : Fin 8, a2 (ix1 k) = BitVec.ofNat 32 (D.T k + 1)
  texts : ∀ k : Fin 8, a3 (ix1 k) = BitVec.ofNat 32 (D.U k + 1)

end Cert.Proof

end
-- ==== Proof.Pre.lean ====
/-
  Arguments that meet the precondition hold data: every logit is a real, every label is below the vocabulary's size, and both
  lengths of each batch are at least one and at most the array's.
-/
module

public import proofs.«01_k».proof.Proof.Math.Data
public import proofs.«01_k».proof.Pre_in_range
public import Idealize.ShloMosaic.Lib.ReduceAll
public import Idealize.ShloMosaic.Lib.Affine

@[expose] public section

set_option maxRecDepth 16384

noncomputable section

namespace Cert.Proof

open Idealize.ShloMosaic
open Cert.Pre_in_range
open Cert.Pre_in_range.Facts

theorem preFacts : Cert.Pre_in_range.Facts where
  bcast_S_S8x200x101x512 := by decide
  reducesTo_S8x200x101x512_S_d0_1_2_3 := by decide
  h_S_ := by decide
  bcast_S_S8x101 := by decide
  reducesTo_S8x101_S_d0_1 := by decide
  bcast_S_S8 := by decide
  reducesTo_S8_S_d0 := by decide

variable [Cert.Pre_in_range.Facts]

theorem andi_one {x y : BitVec 1} (h : IntOp.andi x y = 1#1) : x = 1#1 ∧ y = 1#1 := by
  revert x y; decide

/-- A word between two bounds, as a natural. -/
theorem word_range {x : BitVec 32} {lo hi : ℕ} (hlo : lo < 2 ^ 31) (hhi : hi < 2 ^ 31) (h1 : (BitVec.ofNat 32 lo).toInt ≤ x.toInt)
    (h2 : x.toInt ≤ (BitVec.ofNat 32 hi).toInt) : lo ≤ x.toNat ∧ x.toNat ≤ hi := by
  have e1 : (BitVec.ofNat 32 lo).toInt = lo := by
    have := BitVec.toInt_eq_toNat_cond (BitVec.ofNat 32 lo)
    rw [BitVec.toNat_ofNat, Nat.mod_eq_of_lt (by omega)] at this
    split_ifs at this <;> omega
  have e2 : (BitVec.ofNat 32 hi).toInt = hi := by
    have := BitVec.toInt_eq_toNat_cond (BitVec.ofNat 32 hi)
    rw [BitVec.toNat_ofNat, Nat.mod_eq_of_lt (by omega)] at this
    split_ifs at this <;> omega
  rw [e1] at h1; rw [e2] at h2
  have := BitVec.toInt_eq_toNat_cond x
  split_ifs at this <;> omega

/-- A finite extended real is a real. -/
theorem real_of_abs {x : EReal} (h : max x (-x) < ⊤) : ∃ r : ℝ, x = (r : EReal) := by
  induction x with
  | bot => simp at h
  | top => simp at h
  | coe r => exact ⟨r, rfl⟩

theorem top_ : Ideal.ofBits .f32 0x7F800000#32 = ⊤ := by simp [Ideal.ofBits, Ideal.ieee]

theorem in_range {a0 : FVec Ideal S8x200x101x512 .f32} {a1 : IVec S8x101 32} {a2 a3 : IVec S8 32}
    (h : Cert.Pre_in_range.fn (F := Ideal) a0 a1 a2 a3 = fun _ => 1#1) :
    (∀ i, ∃ r : ℝ, a0 i = (r : EReal)) ∧ (∀ i, (a1 i).toNat ≤ 511) ∧ (∀ i, 1 ≤ (a2 i).toNat ∧ (a2 i).toNat ≤ 200) ∧ (∀ i, 1 ≤ (a3 i).toNat ∧ (a3 i).toNat ≤ 101) := by
  have hh := congrFun h (Shape.Idx.first h_S_)
  dsimp only [fn, fn_part1] at hh
  obtain ⟨hh, h3⟩ := andi_one hh
  obtain ⟨hh, h2⟩ := andi_one hh
  obtain ⟨h0, h1⟩ := andi_one hh
  refine ⟨fun i => ?_, fun i => ?_, fun i => ?_, fun i => ?_⟩
  · have e : BitVec.ofBool (decide (max (a0 i) (-a0 i) < Ideal.ofBits .f32 0x7F800000#32)) = 1#1 := Host.reduce_andi_all _ _ _ _ _ h0 i
    rw [top_] at e
    refine real_of_abs ?_
    by_contra hn
    rw [decide_eq_false hn] at e
    exact absurd e (by decide)
  · obtain ⟨ea, eb⟩ := andi_one (Host.reduce_andi_all _ _ _ _ _ h1 i)
    have eb : (a1 i).toInt < (BitVec.ofNat 32 512).toInt := IntOp.cmpi_slt.1 eb
    have e : (BitVec.ofNat 32 511).toInt + 1 = (BitVec.ofNat 32 512).toInt := by decide
    exact (word_range (lo := 0) (hi := 511) (by norm_num) (by norm_num) (IntOp.cmpi_sge.1 ea) (by omega)).2
  · obtain ⟨ea, eb⟩ := andi_one (Host.reduce_andi_all _ _ _ _ _ h2 i)
    exact word_range (by norm_num) (by norm_num) (IntOp.cmpi_sge.1 ea) (IntOp.cmpi_sle.1 eb)
  · obtain ⟨ea, eb⟩ := andi_one (Host.reduce_andi_all _ _ _ _ _ h3 i)
    exact word_range (by norm_num) (by norm_num) (IntOp.cmpi_sge.1 ea) (IntOp.cmpi_sle.1 eb)

/-- The data of arguments in range. -/
theorem data_of_pre {a0 : FVec Ideal S8x200x101x512 .f32} {a1 : IVec S8x101 32} {a2 a3 : IVec S8 32}
    (h : Cert.Pre_in_range.fn (F := Ideal) a0 a1 a2 a3 = fun _ => 1#1) : ∃ D, IsData D a0 a1 a2 a3 := by
  obtain ⟨h0, h1, h2, h3⟩ := in_range h
  refine ⟨{
      X := fun k t u v => if h : t < 200 ∧ u < 101 then (a0 (ix4 k (⟨t, h.1⟩ : Fin 200) (⟨u, h.2⟩ : Fin 101) v)).toReal else 0
      L := fun k u => if h : u < 100 then ⟨(a1 (ix2 k (⟨u + 1, by omega⟩ : Fin 101))).toNat, by have := h1 (ix2 k (⟨u + 1, by omega⟩ : Fin 101)); omega⟩ else 0
      T := fun k => (a2 (ix1 k)).toNat - 1
      U := fun k => (a3 (ix1 k)).toNat - 1
      hT := fun k => by have := h2 (ix1 k); omega
      hU := fun k => by have := h3 (ix1 k); omega
      hL := fun k => dif_neg (by omega) }, ⟨fun k t u v => ?_, fun k u hu => ?_, fun k => ?_, fun k => ?_⟩⟩
  · obtain ⟨r, hr⟩ := h0 (ix4 k t u v)
    show _ = ((dite _ _ _ : ℝ) : EReal)
    rw [dif_pos ⟨t.isLt, u.isLt⟩, hr]
    rfl
  · show _ = BitVec.ofNat 32 (dite _ _ _ : Fin 512).val
    rw [dif_pos hu]
    exact (BitVec.eq_of_toNat_eq (by rw [BitVec.toNat_ofNat, Nat.mod_eq_of_lt (BitVec.isLt _)]))
  · show _ = BitVec.ofNat 32 ((a2 (ix1 k)).toNat - 1 + 1)
    rw [Nat.sub_add_cancel (h2 (ix1 k)).1]
    exact (BitVec.eq_of_toNat_eq (by rw [BitVec.toNat_ofNat, Nat.mod_eq_of_lt (BitVec.isLt _)]))
  · show _ = BitVec.ofNat 32 ((a3 (ix1 k)).toNat - 1 + 1)
    rw [Nat.sub_add_cancel (h3 (ix1 k)).1]
    exact (BitVec.eq_of_toNat_eq (by rw [BitVec.toNat_ofNat, Nat.mod_eq_of_lt (BitVec.isLt _)]))

end Cert.Proof

end
-- ==== Proof.KernelIdeal.Rows.lean ====
/-
  The wavefront of one grid point, read as eight rows: the words the body computes, named in the order it computes
  them, and each row's result as one row step of the one before.
-/
module

public import proofs.«01_k».proof.Proof.Gen.KernelIdeal.Frame
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]

/-- The logarithm of a sum of exponentials, elementwise, as the kernel writes it. -/
def lae (x y : FVec F S8x101 .f32) : FVec F S8x101 .f32 :=
  select (cmpf .one (subf x y) (subf x y)) (addf x y)
    (addf (maximumf x y) (log1p (exp (subf (broadcast S8x101 (Scalar.ofBits .f32 0x00000000#32 : F .f32)) (absf (subf x y))))))

/-- The log of zero, as the kernel's code names it. -/
abbrev neg : F .f32 := Named.named κ "neg" 0xF149F2CA#32

/-- A row moved 1 to the right, the log of zero before it. -/
def sh1 (x : FVec F S8x101 .f32) : FVec F S8x101 .f32 :=
  concatenate S8x101 1 [⟨S8x1, broadcast S8x1 neg⟩, ⟨S8x100, extractStridedSlice S8x100 ![0, 0] x slices_S8x101_o0_0_S8x100⟩] concatenates_S8x1_S8x100_S8x101_d1

/-- A row moved 2 to the right, the log of zero before it. -/
def sh2 (x : FVec F S8x101 .f32) : FVec F S8x101 .f32 :=
  concatenate S8x101 1 [⟨S8x2, broadcast S8x2 neg⟩, ⟨S8x99, extractStridedSlice S8x99 ![0, 0] x slices_S8x101_o0_0_S8x99⟩] concatenates_S8x2_S8x99_S8x101_d1

/-- A row moved 4 to the right, the log of zero before it. -/
def sh4 (x : FVec F S8x101 .f32) : FVec F S8x101 .f32 :=
  concatenate S8x101 1 [⟨S8x4, broadcast S8x4 neg⟩, ⟨S8x97, extractStridedSlice S8x97 ![0, 0] x slices_S8x101_o0_0_S8x97⟩] concatenates_S8x4_S8x97_S8x101_d1

/-- A row moved 8 to the right, the log of zero before it. -/
def sh8 (x : FVec F S8x101 .f32) : FVec F S8x101 .f32 :=
  concatenate S8x101 1 [⟨S8x8, broadcast S8x8 neg⟩, ⟨S8x93, extractStridedSlice S8x93 ![0, 0] x slices_S8x101_o0_0_S8x93⟩] concatenates_S8x8_S8x93_S8x101_d1

/-- A row moved 16 to the right, the log of zero before it. -/
def sh16 (x : FVec F S8x101 .f32) : FVec F S8x101 .f32 :=
  concatenate S8x101 1 [⟨S8x16, broadcast S8x16 neg⟩, ⟨S8x85, extractStridedSlice S8x85 ![0, 0] x slices_S8x101_o0_0_S8x85⟩] concatenates_S8x16_S8x85_S8x101_d1

/-- A row moved 32 to the right, the log of zero before it. -/
def sh32 (x : FVec F S8x101 .f32) : FVec F S8x101 .f32 :=
  concatenate S8x101 1 [⟨S8x32, broadcast S8x32 neg⟩, ⟨S8x69, extractStridedSlice S8x69 ![0, 0] x slices_S8x101_o0_0_S8x69⟩] concatenates_S8x32_S8x69_S8x101_d1

/-- A row moved 64 to the right, the log of zero before it. -/
def sh64 (x : FVec F S8x101 .f32) : FVec F S8x101 .f32 :=
  concatenate S8x101 1 [⟨S8x64, broadcast S8x64 neg⟩, ⟨S8x37, extractStridedSlice S8x37 ![0, 0] x slices_S8x101_o0_0_S8x37⟩] concatenates_S8x64_S8x37_S8x101_d1

/-- The scan of a row by doubling, in seven steps. -/
def scan1 (x : FVec F S8x101 .f32) : FVec F S8x101 .f32 := lae x (sh1 x)
def scan2 (x : FVec F S8x101 .f32) : FVec F S8x101 .f32 := lae (scan1 x) (sh2 (scan1 x))
def scan4 (x : FVec F S8x101 .f32) : FVec F S8x101 .f32 := lae (scan2 x) (sh4 (scan2 x))
def scan8 (x : FVec F S8x101 .f32) : FVec F S8x101 .f32 := lae (scan4 x) (sh8 (scan4 x))
def scan16 (x : FVec F S8x101 .f32) : FVec F S8x101 .f32 := lae (scan8 x) (sh16 (scan8 x))
def scan32 (x : FVec F S8x101 .f32) : FVec F S8x101 .f32 := lae (scan16 x) (sh32 (scan16 x))
def scan64 (x : FVec F S8x101 .f32) : FVec F S8x101 .f32 := lae (scan32 x) (sh64 (scan32 x))

/-- A row of eight, as a matrix. -/
abbrev ro (x : Vec F S1x8x101 .f32) : FVec F S8x101 .f32 := shapeCast S8x101 x shapeCasts_S1x8x101_S8x101

/-- The frame number of row `k` of the block before grid point `a`. -/
abbrev tw (a k : BitVec 32) : BitVec 32 := Scalar.addi (Scalar.muli (Scalar.subi a 1#32) 8#32) k

/-- The row a scan starts from: what came from the frame before, less the row's emission prefix. -/
def rowStart (t : BitVec 32) (P b c : FVec F S8x101 .f32) : FVec F S8x101 .f32 :=
  subf (Scalar.select (Scalar.cmpi .eq t 0#32) k0_pay35 (addf P b)) c

/-- One row step: the scan, with the emission prefix put back. -/
def rowP (t : BitVec 32) (P b c : FVec F S8x101 .f32) : FVec F S8x101 .f32 :=
  addf c (scan64 (rowStart t P b c))

/-- The accumulator after a row: the batches whose last frame this is take their entry. -/
def rowAcc (fin : IVec S8x101 1) (tfin : IVec S8x1 32) (t : BitVec 32) (P b : FVec F S8x101 .f32) (acc : FVec F S8x1 .f32) :
    FVec F S8x1 .f32 :=
  select (cmpi .eq tfin (broadcast S8x1 t))
    (shapeCast S8x1 (multiReduction .add [1] S8 (select fin (addf P b) (broadcast S8x101 (Scalar.ofBits .f32 0x00000000#32 : F .f32))) 0x00000000#32 reduces_S8x101_S8 (.inl rfl) rfl) shapeCasts_S8_S8x1)
    acc

/-- What the wavefront of a grid point starts from. -/
structure RowIn (F : FTy → Type) where
  /-- the grid point -/
  a : BitVec 32
  /-- where each batch ends in the label axis -/
  fin : IVec S8x101 1
  /-- each batch's last frame -/
  tfin : IVec S8x1 32
  /-- the last row of the block before -/
  P : FVec F S8x101 .f32
  /-- its blank scores -/
  b : FVec F S8x101 .f32
  /-- the accumulator -/
  acc : FVec F S8x1 .f32
  /-- the staged blank scores -/
  bl : Fin 8 → Vec F S1x8x101 .f32
  /-- the staged emission prefixes -/
  cl : Fin 8 → Vec F S1x8x101 .f32

/-- The state a row leaves: its forward scores, its blank scores, the accumulator. -/
structure RowSt (F : FTy → Type) where
  /-- forward scores -/
  P : FVec F S8x101 .f32
  /-- blank scores -/
  b : FVec F S8x101 .f32
  /-- accumulator -/
  acc : FVec F S8x1 .f32

/-- One row. -/
def rowStep (x : RowIn F) (k : Fin 8) (kw : BitVec 32) (s : RowSt F) : RowSt F :=
  ⟨rowP (tw x.a kw) s.P s.b (ro (x.cl k)), ro (x.bl k),
    rowAcc x.fin x.tfin (tw x.a kw) (rowP (tw x.a kw) s.P s.b (ro (x.cl k))) (ro (x.bl k)) s.acc⟩

/-- The state before row `k`. -/
def st0 (x : RowIn F) : RowSt F := ⟨x.P, x.b, x.acc⟩
def st1 (x : RowIn F) : RowSt F := rowStep x 0 0#32 (st0 x)
def st2 (x : RowIn F) : RowSt F := rowStep x 1 1#32 (st1 x)
def st3 (x : RowIn F) : RowSt F := rowStep x 2 2#32 (st2 x)
def st4 (x : RowIn F) : RowSt F := rowStep x 3 3#32 (st3 x)
def st5 (x : RowIn F) : RowSt F := rowStep x 4 4#32 (st4 x)
def st6 (x : RowIn F) : RowSt F := rowStep x 5 5#32 (st5 x)
def st7 (x : RowIn F) : RowSt F := rowStep x 6 6#32 (st6 x)
def st8 (x : RowIn F) : RowSt F := rowStep x 7 7#32 (st7 x)

/-! The words, in the order the body computes them. -/

def w6 (x : RowIn F) := k0_pay36 (x.bl 0)
def w7 (x : RowIn F) := k0_pay37 (x.cl 0)
def w8 (x : RowIn F) := k0_pay40 x.P x.b k0_pay35 (tw x.a 0#32) (w7 x) 0#32
def w9 (x : RowIn F) := k0_pay41 x.P x.b k0_pay35 (tw x.a 0#32) (w7 x) 0#32
def w10 (x : RowIn F) := k0_pay42 x.P x.b k0_pay35 (tw x.a 0#32) (w7 x) 0#32
def w11 (x : RowIn F) := k0_pay43 x.P x.b k0_pay35 (tw x.a 0#32) (w7 x) 0#32
def w12 (x : RowIn F) := k0_pay44 (w7 x) (w8 x) (w9 x) (w10 x) (w11 x)
def w13 (x : RowIn F) := k0_pay45 (w6 x) (w7 x) (w8 x) (w9 x) (w10 x) (w11 x)
def w14 (x : RowIn F) := k0_pay47 x.fin x.tfin x.acc (tw x.a 0#32) (w13 x) k0_pay46
def w15 (x : RowIn F) := k0_pay48 (x.bl 1)
def w16 (x : RowIn F) := k0_pay49 (x.cl 1)
def w17 (x : RowIn F) := k0_pay50 x.a k0_pay35 (w6 x) (w12 x) (x.cl 1)
def w18 (x : RowIn F) := k0_pay53 (w17 x)
def w19 (x : RowIn F) := k0_pay55 (w17 x)
def w20 (x : RowIn F) := k0_pay56 (w17 x)
def w21 (x : RowIn F) := k0_pay57 (w17 x)
def w22 (x : RowIn F) := k0_pay59 x.fin x.tfin (w14 x) (tw x.a 1#32) (w15 x) (w16 x) (w18 x) (w19 x) (w20 x) (w21 x)
def w23 (x : RowIn F) := k0_pay60 (x.bl 2)
def w24 (x : RowIn F) := k0_pay61 (x.cl 2)
def w25 (x : RowIn F) := k0_pay64 x.a k0_pay35 (w15 x) (w16 x) (w18 x) (w19 x) (w20 x) (w21 x) (x.cl 2)
def w26 (x : RowIn F) := k0_pay65 x.a k0_pay35 (w15 x) (w16 x) (w18 x) (w19 x) (w20 x) (w21 x) (x.cl 2)
def w27 (x : RowIn F) := k0_pay66 x.a k0_pay35 (w15 x) (w16 x) (w18 x) (w19 x) (w20 x) (w21 x) (x.cl 2)
def w28 (x : RowIn F) := k0_pay67 x.a k0_pay35 (w15 x) (w16 x) (w18 x) (w19 x) (w20 x) (w21 x) (x.cl 2)
def w29 (x : RowIn F) := k0_pay68 (w25 x) (w26 x) (w27 x) (w28 x)
def w30 (x : RowIn F) := k0_pay69 (w25 x) (w26 x) (w27 x) (w28 x)
def w31 (x : RowIn F) := k0_pay70 (w24 x) (w29 x) (w30 x)
def w32 (x : RowIn F) := k0_pay71 x.fin x.tfin (w22 x) (tw x.a 2#32) (w23 x) (w24 x) (w29 x) (w30 x)
def w33 (x : RowIn F) := k0_pay72 (x.bl 3)
def w34 (x : RowIn F) := k0_pay73 (x.cl 3)
def w35 (x : RowIn F) := k0_pay76 k0_pay35 (w23 x) (w31 x) (Scalar.muli (Scalar.subi x.a 1#32) 8#32) (3#32) (x.cl 3)
def w36 (x : RowIn F) := k0_pay78 k0_pay35 (w23 x) (w31 x) (Scalar.muli (Scalar.subi x.a 1#32) 8#32) (3#32) (x.cl 3)
def w37 (x : RowIn F) := k0_pay79 k0_pay35 (w23 x) (w31 x) (Scalar.muli (Scalar.subi x.a 1#32) 8#32) (3#32) (x.cl 3)
def w38 (x : RowIn F) := k0_pay80 k0_pay35 (w23 x) (w31 x) (Scalar.muli (Scalar.subi x.a 1#32) 8#32) (3#32) (x.cl 3)
def w39 (x : RowIn F) := k0_pay83 (w35 x) (w36 x) (w37 x) (w38 x)
def w40 (x : RowIn F) := k0_pay84 (w35 x) (w36 x) (w37 x) (w38 x)
def w41 (x : RowIn F) := k0_pay85 (w35 x) (w36 x) (w37 x) (w38 x)
def w42 (x : RowIn F) := k0_pay86 (w35 x) (w36 x) (w37 x) (w38 x)
def w43 (x : RowIn F) := k0_pay88 x.fin x.tfin (w32 x) (tw x.a 3#32) (w33 x) (w34 x) (w39 x) (w40 x) (w41 x) (w42 x)
def w44 (x : RowIn F) := k0_pay89 (x.bl 4)
def w45 (x : RowIn F) := k0_pay90 (x.cl 4)
def w46 (x : RowIn F) := k0_pay91 x.a k0_pay35 (w33 x) (w34 x) (w39 x) (w40 x) (w41 x) (w42 x) (x.cl 4)
def w47 (x : RowIn F) := k0_pay92 x.a k0_pay35 (w33 x) (w34 x) (w39 x) (w40 x) (w41 x) (w42 x) (x.cl 4)
def w48 (x : RowIn F) := k0_pay93 (w46 x) (w47 x)
def w49 (x : RowIn F) := k0_pay94 (w45 x) (w48 x)
def w50 (x : RowIn F) := k0_pay95 x.fin x.tfin (w43 x) (tw x.a 4#32) (w44 x) (w45 x) (w48 x)
def w51 (x : RowIn F) := k0_pay96 (x.bl 5)
def w52 (x : RowIn F) := k0_pay97 (x.cl 5)
def w53 (x : RowIn F) := k0_pay100 k0_pay35 (w44 x) (w49 x) (tw x.a 5#32) (w52 x) 0#32
def w54 (x : RowIn F) := k0_pay101 k0_pay35 (w44 x) (w49 x) (tw x.a 5#32) (w52 x) 0#32
def w55 (x : RowIn F) := k0_pay102 k0_pay35 (w44 x) (w49 x) (tw x.a 5#32) (w52 x) 0#32
def w56 (x : RowIn F) := k0_pay103 k0_pay35 (w44 x) (w49 x) (tw x.a 5#32) (w52 x) 0#32
def w57 (x : RowIn F) := k0_pay104 (w52 x) (w53 x) (w54 x) (w55 x) (w56 x)
def w58 (x : RowIn F) := k0_pay105 (w51 x) (w52 x) (w53 x) (w54 x) (w55 x) (w56 x)
def w59 (x : RowIn F) := k0_pay107 x.fin x.tfin (w50 x) (tw x.a 5#32) (w58 x) k0_pay106
def w60 (x : RowIn F) := k0_pay108 (x.bl 6)
def w61 (x : RowIn F) := k0_pay109 (x.cl 6)
def w62 (x : RowIn F) := k0_pay110 x.a k0_pay35 (w51 x) (w57 x) (x.cl 6)
def w63 (x : RowIn F) := k0_pay113 (w62 x)
def w64 (x : RowIn F) := k0_pay115 (w62 x)
def w65 (x : RowIn F) := k0_pay116 (w62 x)
def w66 (x : RowIn F) := k0_pay117 (w62 x)
def w67 (x : RowIn F) := k0_pay119 x.fin x.tfin (w59 x) (tw x.a 6#32) (w60 x) (w61 x) (w63 x) (w64 x) (w65 x) (w66 x)
def w68 (x : RowIn F) := k0_pay120 (x.bl 7)
def w69 (x : RowIn F) := k0_pay121 (x.cl 7)
def w70 (x : RowIn F) := k0_pay124 x.a k0_pay35 (w60 x) (w61 x) (w63 x) (w64 x) (w65 x) (w66 x) (x.cl 7)
def w71 (x : RowIn F) := k0_pay125 x.a k0_pay35 (w60 x) (w61 x) (w63 x) (w64 x) (w65 x) (w66 x) (x.cl 7)
def w72 (x : RowIn F) := k0_pay126 x.a k0_pay35 (w60 x) (w61 x) (w63 x) (w64 x) (w65 x) (w66 x) (x.cl 7)
def w73 (x : RowIn F) := k0_pay127 x.a k0_pay35 (w60 x) (w61 x) (w63 x) (w64 x) (w65 x) (w66 x) (x.cl 7)
def w74 (x : RowIn F) := k0_pay128 (w70 x) (w71 x) (w72 x) (w73 x)
def w75 (x : RowIn F) := k0_pay129 (w70 x) (w71 x) (w72 x) (w73 x)
def w76 (x : RowIn F) := k0_pay131 x.fin x.tfin (w67 x) (tw x.a 7#32) (w68 x) (w69 x) (w74 x) (w75 x)
def w77 (x : RowIn F) := k0_pay132 (w69 x) (w74 x) (w75 x)

theorem p0_eq (x : RowIn F) : w12 x = rowP (tw x.a 0#32) x.P x.b (ro (x.cl 0)) := rfl
theorem a0_eq (x : RowIn F) : w14 x = rowAcc x.fin x.tfin (tw x.a 0#32) (rowP (tw x.a 0#32) x.P x.b (ro (x.cl 0))) (w6 x) x.acc := rfl
theorem a1_eq (x : RowIn F) : w22 x = rowAcc x.fin x.tfin (tw x.a 1#32) (rowP (tw x.a 1#32) (w12 x) (w6 x) (ro (x.cl 1))) (w15 x) (w14 x) := rfl
theorem p2_eq (x : RowIn F) : w31 x = rowP (tw x.a 2#32) (rowP (tw x.a 1#32) (w12 x) (w6 x) (ro (x.cl 1))) (w15 x) (ro (x.cl 2)) := rfl
theorem a2_eq (x : RowIn F) : w32 x = rowAcc x.fin x.tfin (tw x.a 2#32) (rowP (tw x.a 2#32) (rowP (tw x.a 1#32) (w12 x) (w6 x) (ro (x.cl 1))) (w15 x) (ro (x.cl 2))) (w23 x) (w22 x) := rfl
theorem a3_eq (x : RowIn F) : w43 x = rowAcc x.fin x.tfin (tw x.a 3#32) (rowP (tw x.a 3#32) (w31 x) (w23 x) (ro (x.cl 3))) (w33 x) (w32 x) := rfl
theorem p4_eq (x : RowIn F) : w49 x = rowP (tw x.a 4#32) (rowP (tw x.a 3#32) (w31 x) (w23 x) (ro (x.cl 3))) (w33 x) (ro (x.cl 4)) := rfl
theorem a4_eq (x : RowIn F) : w50 x = rowAcc x.fin x.tfin (tw x.a 4#32) (rowP (tw x.a 4#32) (rowP (tw x.a 3#32) (w31 x) (w23 x) (ro (x.cl 3))) (w33 x) (ro (x.cl 4))) (w44 x) (w43 x) := rfl
theorem p5_eq (x : RowIn F) : w57 x = rowP (tw x.a 5#32) (w49 x) (w44 x) (ro (x.cl 5)) := rfl
theorem a5_eq (x : RowIn F) : w59 x = rowAcc x.fin x.tfin (tw x.a 5#32) (rowP (tw x.a 5#32) (w49 x) (w44 x) (ro (x.cl 5))) (w51 x) (w50 x) := rfl
theorem a6_eq (x : RowIn F) : w67 x = rowAcc x.fin x.tfin (tw x.a 6#32) (rowP (tw x.a 6#32) (w57 x) (w51 x) (ro (x.cl 6))) (w60 x) (w59 x) := rfl
theorem p7_eq (x : RowIn F) : w77 x = shapeCast S8x101 (rowP (tw x.a 7#32) (rowP (tw x.a 6#32) (w57 x) (w51 x) (ro (x.cl 6))) (w60 x) (ro (x.cl 7))) shapeCasts_S8x101_S8x101 := rfl
theorem a7_eq (x : RowIn F) : w76 x = rowAcc x.fin x.tfin (tw x.a 7#32) (rowP (tw x.a 7#32) (rowP (tw x.a 6#32) (w57 x) (w51 x) (ro (x.cl 6))) (w60 x) (ro (x.cl 7))) (w68 x) (w67 x) := rfl

/-- The rows together: what the body stores is the state after eight row steps. -/
theorem rows_P (x : RowIn F) : w77 x = shapeCast S8x101 (st8 x).P shapeCasts_S8x101_S8x101 := by
  rw [p7_eq, p5_eq, p4_eq, p2_eq, p0_eq]; rfl

theorem rows_acc (x : RowIn F) : w76 x = (st8 x).acc := by
  rw [a7_eq, a6_eq, a5_eq, a4_eq, a3_eq, a2_eq, a1_eq, a0_eq, p5_eq, p4_eq, p2_eq, p0_eq]; rfl

theorem rows_b (x : RowIn F) : w68 x = (st8 x).b := rfl

end Cert.Proof.KernelIdeal
-- ==== Proof.KernelIdeal.Stage.lean ====
/-
  What a grid point stages from its block of logits: for each of the eight frames of the block, the blank scores and the
  prefix sums of the emission scores.
-/
module

public import proofs.«01_k».proof.Proof.KernelIdeal.Rows
public import Idealize.ShloMosaic.Lib.Pointwise
public import Idealize.ShloMosaic.Lib.Claim
public import Idealize.ShloMosaic.Lib.Pipeline.ValueKit.Tiles
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]

/-- The first four frames of a block. -/
def chunkLo (x : Vec F S8x8x101x512 .f32) : Vec F S8x4x101x512 .f32 := fun j => x (ix4 (j 0) ⟨(j 1).val, Nat.lt_of_lt_of_le (j 1).isLt (by decide)⟩ (j 2) (j 3))

/-- The last four frames of a block. -/
def chunkHi (x : Vec F S8x8x101x512 .f32) : Vec F S8x4x101x512 .f32 := fun j => x (ix4 (j 0) ⟨4 + (j 1).val, Nat.add_lt_add_left (m := 4) (j 1).isLt 4⟩ (j 2) (j 3))

/-- The staged blank scores. -/
def stB (x : Vec F S8x8x101x512 .f32) : FVec F S8x8x101 .f32 := fun j =>
  if h : (j 0).val < 4 then k0_pay8 (chunkLo x) (ix3 (j 1) ⟨(j 0).val, h⟩ (j 2))
  else k0_pay8 (chunkHi x) (ix3 (j 1) ⟨(j 0).val - 4, Nat.sub_lt_left_of_lt_add (Nat.not_lt.1 h) (j 0).isLt⟩ (j 2))

/-- The staged emission prefixes; `v` marks the label at each position. -/
def stC (v : IVec S8x101x512 1) (x : Vec F S8x8x101x512 .f32) : FVec F S8x8x101 .f32 := fun j =>
  if h : (j 0).val < 4 then k0_pay9 v (chunkLo x) (ix3 (j 1) ⟨(j 0).val, h⟩ (j 2))
  else k0_pay9 v (chunkHi x) (ix3 (j 1) ⟨(j 0).val - 4, Nat.sub_lt_left_of_lt_add (Nat.not_lt.1 h) (j 0).isLt⟩ (j 2))

/-- One frame of a staged buffer. -/
def rowLd (D : FVec F S8x8x101 .f32) (k : Fin 8) : Vec F S1x8x101 .f32 := fun j => D (ix3 k (j 1) (j 2))

theorem inbRow (k : Fin 8) : ∀ a, (![k.val, 0, 0] : Fin 3 → ℕ) a + S1x8x101.size a ≤ S8x8x101.size a := by
  revert k; decide

/-- The load of one frame of a staged buffer. -/
theorem load_row {sp : Space} (v : View sig .tc sp S8x8x101 .f32) (f : v.ty.Contents (Elt F)) (k : Fin 8) :
    View.readAt (Elt F) v (Rect.unit (s := S8x8x101) ![k.val, 0, 0] S1x8x101.size (inbRow k)).toLoadRect f = rowLd (View.read (Elt F) v f) k := by
  rw [View.readAt_eq_ld]
  funext j
  idx_vars j
  pointwise [rowLd]

theorem inbLo : ∀ a, (![0, 0, 0, 0] : Fin 4 → ℕ) a + S8x4x101x512.size a ≤ S8x8x101x512.size a := by decide
theorem inbHi : ∀ a, (![0, 4, 0, 0] : Fin 4 → ℕ) a + S8x4x101x512.size a ≤ S8x8x101x512.size a := by decide

theorem load_lo {sp : Space} (v : View sig .tc sp S8x8x101x512 .f32) (f : v.ty.Contents (Elt F)) :
    View.readAt (Elt F) v (Rect.unit (s := S8x8x101x512) ![0, 0, 0, 0] S8x4x101x512.size inbLo).toLoadRect f = chunkLo (View.read (Elt F) v f) := by
  rw [View.readAt_eq_ld]
  funext j
  idx_vars j
  pointwise [chunkLo]

theorem load_hi {sp : Space} (v : View sig .tc sp S8x8x101x512 .f32) (f : v.ty.Contents (Elt F)) :
    View.readAt (Elt F) v (Rect.unit (s := S8x8x101x512) ![0, 4, 0, 0] S8x4x101x512.size inbHi).toLoadRect f = chunkHi (View.read (Elt F) v f) := by
  rw [View.readAt_eq_ld]
  funext j
  idx_vars j
  pointwise [chunkHi]

/-- The second half of a block is staged as the first is. -/
theorem pay20_eq (x : Vec F S8x4x101x512 .f32) : k0_pay20 x = k0_pay8 x := rfl
theorem pay24_eq (v : IVec S8x101x512 1) (x : Vec F S8x4x101x512 .f32) :
    k0_pay24 (k0_pay21 v x) k0_pay22 (k0_pay23 v x) = k0_pay9 v x := rfl

theorem row_at (p : Fin 8 → FVec F S1x8x101 .f32) (D : FVec F S8x8x101 .f32)
    (h : ∀ (k b : Fin 8) (u : Fin 101), p k (ix3 0 b u) = D (ix3 k b u)) (k : Fin 8) (x : S1x8x101.Idx) (y : S8x8x101.Idx)
    (h0 : (y 0).val = k.val) (h1 : (y 1).val = (x 1).val) (h2 : (y 2).val = (x 2).val) : p k x = D y := by
  have hx : x = ix3 0 (x 1) (x 2) := by
    rw [eq_ix3 x]; congr 1; exact Fin.ext (Nat.lt_one_iff.1 (x 0).isLt)
  have hy : y = ix3 k (x 1) (x 2) := by
    rw [eq_ix3 y]; exact (ix3_inj ..).2 ⟨Fin.ext h0, Fin.ext h1, Fin.ext h2⟩
  rw [hx, hy]
  exact h k (x 1) (x 2)

/-- Eight stores of rows, read back: any eight payloads that hold the rows of `D`. -/
theorem rows_stored (p : Fin 8 → FVec F S1x8x101 .f32) (D : FVec F S8x8x101 .f32)
    (h : ∀ (k b : Fin 8) (u : Fin 101), p k (ix3 0 b u) = D (ix3 k b u)) {sp : Space} (v : View sig .tc sp S8x8x101 .f32) (f : v.ty.Contents (Elt F)) :
    View.read (Elt F) v (v.writes (Elt F) f
      [(⟨Rect.unit (s := S8x8x101) ![7, 0, 0] S1x8x101.size (inbRow 7), p 7⟩ : View.Piece (Elt F) S8x8x101 .f32), ⟨Rect.unit (s := S8x8x101) ![6, 0, 0] S1x8x101.size (inbRow 6), p 6⟩,
        ⟨Rect.unit (s := S8x8x101) ![5, 0, 0] S1x8x101.size (inbRow 5), p 5⟩, ⟨Rect.unit (s := S8x8x101) ![4, 0, 0] S1x8x101.size (inbRow 4), p 4⟩,
        ⟨Rect.unit (s := S8x8x101) ![3, 0, 0] S1x8x101.size (inbRow 3), p 3⟩, ⟨Rect.unit (s := S8x8x101) ![2, 0, 0] S1x8x101.size (inbRow 2), p 2⟩,
        ⟨Rect.unit (s := S8x8x101) ![1, 0, 0] S1x8x101.size (inbRow 1), p 1⟩, ⟨Rect.unit (s := S8x8x101) ![0, 0, 0] S1x8x101.size (inbRow 0), p 0⟩]) = D := by
  refine (View.read_writes_eq_canon v f _ ?_).trans ?_
  · intro y
    exact View.cover_of_tiled (s := S8x8x101) _ S1x8x101.size (by rfl) y
  funext y
  canon_tiles x h0
  · exact row_at p D h 7 x y (by omega) h01 h02
  · exact row_at p D h 6 x y (by omega) h01 h02
  · exact row_at p D h 5 x y (by omega) h01 h02
  · exact row_at p D h 4 x y (by omega) h01 h02
  · exact row_at p D h 3 x y (by omega) h01 h02
  · exact row_at p D h 2 x y (by omega) h01 h02
  · exact row_at p D h 1 x y (by omega) h01 h02
  · exact row_at p D h 0 x y (by omega) h01 h02

/-- The eight rows of blank scores, as stored. -/
def rowsB (B0 B1 : FVec F S8x4x101 .f32) : Fin 8 → FVec F S1x8x101 .f32 :=
  ![k0_pay10 B0, k0_pay12 B0, k0_pay14 B0, k0_pay17 (k0_pay16 B0), k0_pay25 B1, k0_pay27 B1, k0_pay29 B1, k0_pay4 B1]

/-- The eight rows of emission prefixes, as stored. -/
def rowsC (C0 a1 : FVec F S8x4x101 .f32) (a2 : FVec F S8x4x16 .f32) (a3 : FVec F S8x4x85 .f32) : Fin 8 → FVec F S1x8x101 .f32 :=
  ![k0_pay11 C0, k0_pay13 C0, k0_pay15 C0, k0_pay18 C0, k0_pay26 a1 a2 a3, k0_pay28 a1 a2 a3, k0_pay3 (k0_pay30 a1 a2 a3), k0_pay5 (k0_pay24 a1 a2 a3)]

theorem rowsB_at (x : Vec F S8x8x101x512 .f32) (k b : Fin 8) (u : Fin 101) :
    rowsB (k0_pay8 (chunkLo x)) (k0_pay20 (chunkHi x)) k (ix3 0 b u) = stB x (ix3 k b u) := by
  rw [pay20_eq]
  unfold stB
  generalize k0_pay8 (chunkLo x) = B0
  generalize k0_pay8 (chunkHi x) = B1
  fin_cases k
  · change k0_pay10 B0 _ = B0 (ix3 b 0 u); pointwise [k0_pay10]
  · change k0_pay12 B0 _ = B0 (ix3 b 1 u); pointwise [k0_pay12]
  · change k0_pay14 B0 _ = B0 (ix3 b 2 u); pointwise [k0_pay14]
  · change k0_pay17 (k0_pay16 B0) _ = B0 (ix3 b 3 u); pointwise [k0_pay17, k0_pay16]
  · change k0_pay25 B1 _ = B1 (ix3 b 0 u); pointwise [k0_pay25]
  · change k0_pay27 B1 _ = B1 (ix3 b 1 u); pointwise [k0_pay27]
  · change k0_pay29 B1 _ = B1 (ix3 b 2 u); pointwise [k0_pay29]
  · change k0_pay4 B1 _ = B1 (ix3 b 3 u); pointwise [k0_pay4]

theorem rowsC_at (v : IVec S8x101x512 1) (x : Vec F S8x8x101x512 .f32) (k b : Fin 8) (u : Fin 101) :
    rowsC (k0_pay9 v (chunkLo x)) (k0_pay21 v (chunkHi x)) k0_pay22 (k0_pay23 v (chunkHi x)) k (ix3 0 b u) = stC v x (ix3 k b u) := by
  have e := pay24_eq v (chunkHi x)
  unfold stC
  rw [← e]
  generalize k0_pay9 v (chunkLo x) = C0
  generalize k0_pay21 v (chunkHi x) = a1
  generalize k0_pay22 (F := F) = a2
  generalize k0_pay23 v (chunkHi x) = a3
  fin_cases k
  · change k0_pay11 C0 _ = C0 (ix3 b 0 u); pointwise [k0_pay11]
  · change k0_pay13 C0 _ = C0 (ix3 b 1 u); pointwise [k0_pay13]
  · change k0_pay15 C0 _ = C0 (ix3 b 2 u); pointwise [k0_pay15]
  · change k0_pay18 C0 _ = C0 (ix3 b 3 u); pointwise [k0_pay18]
  · change k0_pay26 a1 a2 a3 _ = k0_pay24 a1 a2 a3 (ix3 b 0 u); unfold k0_pay26; generalize k0_pay24 a1 a2 a3 = C1; pointwise []
  · change k0_pay28 a1 a2 a3 _ = k0_pay24 a1 a2 a3 (ix3 b 1 u); unfold k0_pay28; generalize k0_pay24 a1 a2 a3 = C1; pointwise []
  · change k0_pay3 (k0_pay30 a1 a2 a3) _ = k0_pay24 a1 a2 a3 (ix3 b 2 u); unfold k0_pay3 k0_pay30; generalize k0_pay24 a1 a2 a3 = C1; pointwise []
  · change k0_pay5 (k0_pay24 a1 a2 a3) _ = k0_pay24 a1 a2 a3 (ix3 b 3 u); unfold k0_pay5; generalize k0_pay24 a1 a2 a3 = C1; pointwise []

/-- A whole buffer stored whole, read back. -/
theorem whole_stored {S : Shape} {e : EltTy} {sp : Space} (v : View sig .tc sp S e) (f : v.ty.Contents (Elt F)) {off : Fin S.rank → ℕ}
    (h : off = fun _ => 0) (inb : ∀ a, off a + S.size a ≤ S.size a) (w : S.Idx → Elt F e)
    (L : List (View.Piece (Elt F) S e)) :
    View.read (Elt F) v (v.writes (Elt F) f ((⟨Rect.unit off S.size inb, w⟩ : View.Piece (Elt F) S e) :: L)) = w := by
  subst h
  refine (View.read_writes_eq_canon v f _ ?_).trans (View.canon_cons_unit_zero rfl _ _ _)
  intro y
  exact ⟨_, List.mem_cons_self, by simp [Rect.mem_set_unit]⟩

/-- A whole buffer loaded whole. -/
theorem load_whole {S : Shape} {e : EltTy} {sp : Space} (v : View sig .tc sp S e) (f : v.ty.Contents (Elt F)) {off : Fin S.rank → ℕ}
    (h : off = fun _ => 0) (inb : ∀ a, off a + S.size a ≤ S.size a) :
    View.readAt (Elt F) v (Rect.unit off S.size inb).toLoadRect f = View.read (Elt F) v f := by
  rw [View.readAt_eq_ld]
  exact View.ld_unit_zero h _ _

end Cert.Proof.KernelIdeal
-- ==== Proof.KernelIdeal.RowValue.lean ====
/-
  One row step over the extended reals: rows that hold logarithms of nonnegative weights are scanned into the logarithms
  of the prefix sums of the weights.
-/
module

public import proofs.«01_k».proof.Proof.KernelIdeal.Stage
public import proofs.«01_k».proof.Proof.Math.Lattice

@[expose] public section

set_option maxRecDepth 16384

noncomputable section

namespace Cert.Proof.KernelIdeal

open Cert.KernelIdeal Cert.KernelIdeal.Gen
open Idealize.ShloMosaic Idealize.ShloMosaic.TcCoe
open Cert.Proof.Lattice

theorem neg_eq : (neg : Ideal .f32) = (⊥ : EReal) := IdealRules.named_const.ideal_named_scalar κ "neg" _ ⊥ rfl

theorem cmpi_one {n : ℕ} (x y : BitVec n) : IntOp.cmpi .eq x y = 1#1 ↔ x = y := by
  rw [WordCmp.cmpi_eq_eq]
  by_cases h : x = y <;> simp [h]

theorem sel_eq {α : Type} {n : ℕ} (x y : BitVec n) (a b : α) : Scalar.select (IntOp.cmpi .eq x y) a b = if x = y then a else b := by
  change (if IntOp.cmpi .eq x y = 1#1 then a else b) = _
  by_cases h : x = y
  · rw [if_pos h, if_pos ((cmpi_one x y).2 h)]
  · rw [if_neg h, if_neg (fun e => h ((cmpi_one x y).1 e))]

theorem sel_nat {α : Type} (m k : ℕ) (hm : m < 2 ^ 32) (hk : k < 2 ^ 32) (a b : α) :
    Scalar.select (IntOp.cmpi .eq (BitVec.ofNat 32 m) (BitVec.ofNat 32 k)) a b = if m = k then a else b := by
  rw [sel_eq]
  have : BitVec.ofNat 32 m = BitVec.ofNat 32 k ↔ m = k := by
    rw [← BitVec.toNat_inj, BitVec.toNat_ofNat, BitVec.toNat_ofNat, Nat.mod_eq_of_lt hm, Nat.mod_eq_of_lt hk]
  simp only [this]

theorem lae_at (x y : FVec Ideal S8x101 .f32) (b : Fin 8) (u : Fin 101) : lae x y (ix2 b u) = lse2 (x (ix2 b u)) (y (ix2 b u)) := by
  pointwise [lae, lse2]
  rw [if_neg (fun h => h rfl), zero_sub]
  rfl

theorem ro_at (x : Vec Ideal S1x8x101 .f32) (b : Fin 8) (u : Fin 101) : (ro x : FVec Ideal S8x101 .f32) (ix2 b u) = x (ix3 0 b u) := by
  pointwise [ro]

theorem sh1_at (x : FVec Ideal S8x101 .f32) (b : Fin 8) (u : Fin 101) :
    sh1 x (ix2 b u) = if h : u.val < 1 then ⊥ else x (ix2 b ⟨u.val - 1, by omega⟩) := by
  pointwise [sh1]
  rw [neg_eq]
theorem sh2_at (x : FVec Ideal S8x101 .f32) (b : Fin 8) (u : Fin 101) :
    sh2 x (ix2 b u) = if h : u.val < 2 then ⊥ else x (ix2 b ⟨u.val - 2, by omega⟩) := by
  pointwise [sh2]
  rw [neg_eq]
theorem sh4_at (x : FVec Ideal S8x101 .f32) (b : Fin 8) (u : Fin 101) :
    sh4 x (ix2 b u) = if h : u.val < 4 then ⊥ else x (ix2 b ⟨u.val - 4, by omega⟩) := by
  pointwise [sh4]
  rw [neg_eq]
theorem sh8_at (x : FVec Ideal S8x101 .f32) (b : Fin 8) (u : Fin 101) :
    sh8 x (ix2 b u) = if h : u.val < 8 then ⊥ else x (ix2 b ⟨u.val - 8, by omega⟩) := by
  pointwise [sh8]
  rw [neg_eq]
theorem sh16_at (x : FVec Ideal S8x101 .f32) (b : Fin 8) (u : Fin 101) :
    sh16 x (ix2 b u) = if h : u.val < 16 then ⊥ else x (ix2 b ⟨u.val - 16, by omega⟩) := by
  pointwise [sh16]
  rw [neg_eq]
theorem sh32_at (x : FVec Ideal S8x101 .f32) (b : Fin 8) (u : Fin 101) :
    sh32 x (ix2 b u) = if h : u.val < 32 then ⊥ else x (ix2 b ⟨u.val - 32, by omega⟩) := by
  pointwise [sh32]
  rw [neg_eq]
theorem sh64_at (x : FVec Ideal S8x101 .f32) (b : Fin 8) (u : Fin 101) :
    sh64 x (ix2 b u) = if h : u.val < 64 then ⊥ else x (ix2 b ⟨u.val - 64, by omega⟩) := by
  pointwise [sh64]
  rw [neg_eq]

/-- A row that holds the windows of length `k`, joined with itself moved by `k`, holds those of twice the length. -/
theorem step_at {k : ℕ} (f : ℕ → ℝ) (hf : ∀ u, 0 ≤ f u) (x y : FVec Ideal S8x101 .f32) (b : Fin 8)
    (hx : ∀ u : Fin 101, x (ix2 b u) = Lg (win f k u))
    (hy : ∀ u : Fin 101, y (ix2 b u) = if h : u.val < k then ⊥ else x (ix2 b ⟨u.val - k, by omega⟩)) (u : Fin 101) :
    lae x y (ix2 b u) = Lg (win f (k + k) u) := by
  rw [lae_at, hx, hy, win_double]
  by_cases h : u.val < k
  · rw [dif_pos h, if_neg (by omega), ← Lg_zero, lse2_Lg (win_nonneg hf _ _) le_rfl]
  · rw [dif_neg h, if_pos (by omega), hx, lse2_Lg (win_nonneg hf _ _) (win_nonneg hf _ _)]

/-- The scan of a row of logarithms of weights: the logarithms of the prefix sums. -/
theorem scan_at (f : ℕ → ℝ) (hf : ∀ u, 0 ≤ f u) (x : FVec Ideal S8x101 .f32) (b : Fin 8)
    (hx : ∀ u : Fin 101, x (ix2 b u) = Lg (f u)) (u : Fin 101) :
    scan64 x (ix2 b u) = Lg (∑ v ∈ Finset.range (u.val + 1), f v) := by
  rw [← win_full f (show u.val < 64 + 64 by omega)]
  have h1 := step_at (k := 1) f hf x (sh1 x) b (fun u => by rw [win_one, hx]) (sh1_at x b)
  have h2 := step_at (k := 2) f hf (scan1 x) (sh2 (scan1 x)) b h1 (sh2_at _ b)
  have h4 := step_at (k := 4) f hf (scan2 x) (sh4 (scan2 x)) b h2 (sh4_at _ b)
  have h8 := step_at (k := 8) f hf (scan4 x) (sh8 (scan4 x)) b h4 (sh8_at _ b)
  have h16 := step_at (k := 16) f hf (scan8 x) (sh16 (scan8 x)) b h8 (sh16_at _ b)
  have h32 := step_at (k := 32) f hf (scan16 x) (sh32 (scan16 x)) b h16 (sh32_at _ b)
  exact step_at (k := 64) f hf (scan32 x) (sh64 (scan32 x)) b h32 (sh64_at _ b) u

theorem fin_at (x : Vec Ideal S8x1 .i32) (b : Fin 8) (u : Fin 101) :
    k0_pay32 (F := Ideal) x (ix2 b u) = IntOp.cmpi .eq (BitVec.ofNat 32 u.val) (x (ix2 b 0)) := by
  pointwise [k0_pay32]

theorem tfin_at (x : Vec Ideal S8x1 .i32) (b : Fin 8) : k0_pay33 (F := Ideal) x (ix2 b 0) = x (ix2 b 0) := by
  pointwise [k0_pay33]

theorem origin_at (b : Fin 8) (u : Fin 101) : k0_pay35 (F := Ideal) (ix2 b u) = if u.val = 0 then (0 : EReal) else ⊥ := by
  pointwise [k0_pay35]
  rw [show (Named.named κ "neg" 0xF149F2CA#32 : Ideal .f32) = (⊥ : EReal) from neg_eq, sel_nat u.val 0 (by omega) (by norm_num)]

section
variable (bl em : Fin 8 → ℕ → ℕ → ℝ) (T U : Fin 8 → ℕ)

/-- The log-likelihood of a batch: the last entry of its last row, and the blank that ends it. -/
def Val (k : Fin 8) : EReal := Lg (alpha (bl k) (em k) (T k) (U k)) + ((bl k (T k) (U k) : ℝ) : EReal)

/-- What a row may assume: before row `t` the state is that of row `t − 1`, and the batches that ended before have their
    log-likelihood. -/
structure Inv (t : ℕ) (s : RowSt Ideal) : Prop where
  P : 1 ≤ t → ∀ (k : Fin 8) (u : Fin 101), s.P (ix2 k u) = Lg (alpha (bl k) (em k) (t - 1) u)
  b : 1 ≤ t → ∀ (k : Fin 8) (u : Fin 101), s.b (ix2 k u) = ((bl k (t - 1) u : ℝ) : EReal)
  acc : ∀ k : Fin 8, T k < t → s.acc (ix2 k 0) = Val bl em T U k

/-- One row of the lattice. -/
theorem rowP_at (t : ℕ) (ht : t < 2 ^ 32) (P b c : FVec Ideal S8x101 .f32) (k : Fin 8)
    (hc : ∀ u : Fin 101, c (ix2 k u) = ((pre (em k) t u : ℝ) : EReal))
    (hP : 1 ≤ t → ∀ u : Fin 101, P (ix2 k u) = Lg (alpha (bl k) (em k) (t - 1) u))
    (hb : 1 ≤ t → ∀ u : Fin 101, b (ix2 k u) = ((bl k (t - 1) u : ℝ) : EReal)) (u : Fin 101) :
    rowP (BitVec.ofNat 32 t) P b c (ix2 k u) = Lg (alpha (bl k) (em k) t u) := by
  have hs : ∀ u : Fin 101, rowStart (BitVec.ofNat 32 t) P b c (ix2 k u) = Lg (start (bl k) (em k) t u * Real.exp (-(pre (em k) t u))) := by
    intro u
    rw [← Lg_sub (start_nonneg _ _ _ _), ← hc]
    pointwise [rowStart]
    refine congrArg (· - _) ?_
    rw [WordCmp.scalar_cmpi_eq, show (0#32 : BitVec 32) = BitVec.ofNat 32 0 from rfl, sel_nat t 0 ht (by norm_num), origin_at]
    cases t with
    | zero =>
      rw [if_pos rfl, start]
      split_ifs
      · rw [Lg_one]
      · rw [Lg_zero]
    | succ t =>
      rw [if_neg (by omega), hP (by omega), hb (by omega), start, Nat.add_sub_cancel, Lg_add (alpha_pos _ _ _ _).le]
  have hsc := scan_at (fun v => start (bl k) (em k) t v * Real.exp (-(pre (em k) t v)))
    (fun v => mul_nonneg (start_nonneg _ _ _ _) (Real.exp_pos _).le) _ k hs u
  pointwise [rowP]
  rw [hsc, hc, alpha_row, add_Lg (Finset.sum_nonneg fun v _ => mul_nonneg (start_nonneg _ _ _ _) (Real.exp_pos _).le)]

/-- The accumulator after a row. -/
theorem rowAcc_at (fin : IVec S8x101 1) (tfin : IVec S8x1 32) (w : BitVec 32) (P b : FVec Ideal S8x101 .f32) (acc : FVec Ideal S8x1 .f32) (k : Fin 8)
    (hU : U k < 101) (hfin : ∀ u : Fin 101, fin (ix2 k u) = IntOp.cmpi .eq (BitVec.ofNat 32 u.val) (BitVec.ofNat 32 (U k))) :
    rowAcc fin tfin w P b acc (ix2 k 0) = if tfin (ix2 k 0) = w then P (ix2 k ⟨U k, hU⟩) + b (ix2 k ⟨U k, hU⟩) else acc (ix2 k 0) := by
  pointwise [rowAcc]
  rw [sel_eq]
  refine if_congr Iff.rfl ?_ rfl
  rw [Finset.sum_eq_single (⟨U k, hU⟩ : Fin 101)]
  · rw [hfin, sel_nat _ _ (by simp; omega) (by omega), if_pos rfl]
  · intro u _ hu
    rw [hfin, sel_nat _ _ (by omega) (by omega), if_neg (fun e => hu (Fin.ext e))]
  · intro h; exact absurd (Finset.mem_univ _) h

/-- What block `p`'s rows read. -/
structure Reads (p : ℕ) (x : RowIn Ideal) : Prop where
  fin : ∀ (k : Fin 8) (u : Fin 101), x.fin (ix2 k u) = IntOp.cmpi .eq (BitVec.ofNat 32 u.val) (BitVec.ofNat 32 (U k))
  tfin : ∀ k : Fin 8, x.tfin (ix2 k 0) = BitVec.ofNat 32 (T k)
  bl : ∀ (r k : Fin 8) (u : Fin 101), x.bl r (ix3 0 k u) = ((bl k (8 * p + r.val) u : ℝ) : EReal)
  cl : ∀ (r k : Fin 8) (u : Fin 101), x.cl r (ix3 0 k u) = ((pre (em k) (8 * p + r.val) u : ℝ) : EReal)

variable {bl em T U}

theorem rowStep_inv (hT : ∀ k, T k < 200) (hU : ∀ k, U k < 101) {p : ℕ} (hp : p < 25) {x : RowIn Ideal} (h : Reads bl em T U p x) (r : Fin 8) (rw : BitVec 32)
    (hw : tw x.a rw = BitVec.ofNat 32 (8 * p + r.val)) {s : RowSt Ideal} (hs : Inv bl em T U (8 * p + r.val) s) :
    Inv bl em T U (8 * p + r.val + 1) (rowStep x r rw s) := by
  have hc : ∀ (k : Fin 8) (u : Fin 101), (ro (x.cl r) : FVec Ideal S8x101 .f32) (ix2 k u) = ((pre (em k) (8 * p + r.val) u : ℝ) : EReal) := fun k u => by
    rw [ro_at, h.cl]
  have hb : ∀ (k : Fin 8) (u : Fin 101), (ro (x.bl r) : FVec Ideal S8x101 .f32) (ix2 k u) = ((bl k (8 * p + r.val) u : ℝ) : EReal) := fun k u => by
    rw [ro_at, h.bl]
  have hP : ∀ (k : Fin 8) (u : Fin 101), rowP (tw x.a rw) s.P s.b (ro (x.cl r)) (ix2 k u) = Lg (alpha (bl k) (em k) (8 * p + r.val) u) := fun k u => by
    rw [hw]
    exact rowP_at bl em _ (by omega) _ _ _ k (hc k) (fun h => hs.P h k) (fun h => hs.b h k) u
  refine ⟨fun _ k u => hP k u, fun _ k u => hb k u, fun k hk => ?_⟩
  change rowAcc x.fin x.tfin (tw x.a rw) _ _ s.acc (ix2 k 0) = _
  rw [rowAcc_at U _ _ _ _ _ _ k (hU k) (h.fin k), hP, hb, h.tfin, hw]
  by_cases e : T k = 8 * p + r.val
  · rw [if_pos (by rw [e]), Val, e]
  · rw [if_neg, hs.acc k (by omega)]
    intro e'
    apply e
    have := congrArg BitVec.toNat e'
    rw [BitVec.toNat_ofNat, BitVec.toNat_ofNat, Nat.mod_eq_of_lt (by have := hT k; omega), Nat.mod_eq_of_lt (by omega)] at this
    exact this

theorem tw_eq (p k : ℕ) (hp : p < 25) (hk : k < 8) : tw (BitVec.ofNat 32 (p + 1)) (BitVec.ofNat 32 k) = BitVec.ofNat 32 (8 * p + k) := by
  change (BitVec.ofNat 32 (p + 1) - 1#32) * 8#32 + BitVec.ofNat 32 k = _
  apply BitVec.eq_of_toNat_eq
  simp only [BitVec.toNat_add, BitVec.toNat_mul, BitVec.toNat_sub, BitVec.toNat_ofNat]
  omega

/-- The eight rows of a block. -/
theorem rows_inv (hT : ∀ k, T k < 200) (hU : ∀ k, U k < 101) {p : ℕ} (hp : p < 25) {x : RowIn Ideal} (ha : x.a = BitVec.ofNat 32 (p + 1)) (h : Reads bl em T U p x)
    (hs : Inv bl em T U (8 * p) (st0 x)) : Inv bl em T U (8 * (p + 1)) (st8 x) := by
  have w : ∀ k < 8, tw x.a (BitVec.ofNat 32 k) = BitVec.ofNat 32 (8 * p + k) := fun k hk => by rw [ha]; exact tw_eq p k hp hk
  have h1 := rowStep_inv hT hU hp h 0 0#32 (w 0 (by omega)) hs
  have h2 := rowStep_inv hT hU hp h 1 1#32 (w 1 (by omega)) h1
  have h3 := rowStep_inv hT hU hp h 2 2#32 (w 2 (by omega)) h2
  have h4 := rowStep_inv hT hU hp h 3 3#32 (w 3 (by omega)) h3
  have h5 := rowStep_inv hT hU hp h 4 4#32 (w 4 (by omega)) h4
  have h6 := rowStep_inv hT hU hp h 5 5#32 (w 5 (by omega)) h5
  have h7 := rowStep_inv hT hU hp h 6 6#32 (w 6 (by omega)) h6
  exact rowStep_inv hT hU hp h 7 7#32 (w 7 (by omega)) h7

theorem inv_zero (s : RowSt Ideal) : Inv bl em T U 0 s :=
  ⟨fun h => absurd h (by omega), fun h => absurd h (by omega), fun k h => absurd h (by omega)⟩

end

end Cert.Proof.KernelIdeal
-- ==== Proof.KernelIdeal.StageValue.lean ====
/-
  What a grid point stages, over the extended reals: from a block of real logits, the blank log-probabilities and the
  prefix sums of the label log-probabilities.
-/
module

public import proofs.«01_k».proof.Proof.KernelIdeal.RowValue

@[expose] public section

set_option maxRecDepth 16384

noncomputable section

namespace Cert.Proof.KernelIdeal

open Cert.KernelIdeal Cert.KernelIdeal.Gen
open Idealize.ShloMosaic Idealize.ShloMosaic.TcCoe
open Cert.Proof.Lattice

/-- Zero, as the kernel's code writes it. -/
abbrev zero {F : FTy → Type} [FloatOps F] : F .f32 := Scalar.ofBits .f32 0x00000000#32

/-- The emission scores of four frames, before their prefix sums. -/
def emRow {F : FTy → Type} [FloatOps F] (v : IVec S8x101x512 1) (x : Vec F S8x4x101x512 .f32) : FVec F S8x4x101 .f32 :=
  subf (multiReduction .add [3] S8x4x101
    (select (broadcastTo S8x4x101x512 (shapeCast S8x1x101x512 (shapeCast S8x1x101x512 v shapeCasts_S8x101x512_S8x1x101x512) shapeCasts_S8x1x101x512_S8x1x101x512) broadcasts_S8x1x101x512_S8x4x101x512)
      x (broadcast S8x4x101x512 zero)) 0x00000000#32 reduces_S8x4x101x512_S8x4x101 (.inl rfl) rfl) (k0_pay7 x)

/-- Rows moved 1 to the right, zeros before them. -/
def mv1 {F : FTy → Type} [FloatOps F] (x : FVec F S8x4x101 .f32) : FVec F S8x4x101 .f32 :=
  concatenate S8x4x101 2 [⟨S8x4x1, broadcast S8x4x1 zero⟩, ⟨S8x4x100, extractStridedSlice S8x4x100 ![0, 0, 0] x slices_S8x4x101_o0_0_0_S8x4x100⟩] concatenates_S8x4x1_S8x4x100_S8x4x101_d2

/-- Rows moved 2 to the right, zeros before them. -/
def mv2 {F : FTy → Type} [FloatOps F] (x : FVec F S8x4x101 .f32) : FVec F S8x4x101 .f32 :=
  concatenate S8x4x101 2 [⟨S8x4x2, broadcast S8x4x2 zero⟩, ⟨S8x4x99, extractStridedSlice S8x4x99 ![0, 0, 0] x slices_S8x4x101_o0_0_0_S8x4x99⟩] concatenates_S8x4x2_S8x4x99_S8x4x101_d2

/-- Rows moved 4 to the right, zeros before them. -/
def mv4 {F : FTy → Type} [FloatOps F] (x : FVec F S8x4x101 .f32) : FVec F S8x4x101 .f32 :=
  concatenate S8x4x101 2 [⟨S8x4x4, broadcast S8x4x4 zero⟩, ⟨S8x4x97, extractStridedSlice S8x4x97 ![0, 0, 0] x slices_S8x4x101_o0_0_0_S8x4x97⟩] concatenates_S8x4x4_S8x4x97_S8x4x101_d2

/-- Rows moved 8 to the right, zeros before them. -/
def mv8 {F : FTy → Type} [FloatOps F] (x : FVec F S8x4x101 .f32) : FVec F S8x4x101 .f32 :=
  concatenate S8x4x101 2 [⟨S8x4x8, broadcast S8x4x8 zero⟩, ⟨S8x4x93, extractStridedSlice S8x4x93 ![0, 0, 0] x slices_S8x4x101_o0_0_0_S8x4x93⟩] concatenates_S8x4x8_S8x4x93_S8x4x101_d2

/-- Rows moved 16 to the right, zeros before them. -/
def mv16 {F : FTy → Type} [FloatOps F] (x : FVec F S8x4x101 .f32) : FVec F S8x4x101 .f32 :=
  concatenate S8x4x101 2 [⟨S8x4x16, broadcast S8x4x16 zero⟩, ⟨S8x4x85, extractStridedSlice S8x4x85 ![0, 0, 0] x slices_S8x4x101_o0_0_0_S8x4x85⟩] concatenates_S8x4x16_S8x4x85_S8x4x101_d2

/-- Rows moved 32 to the right, zeros before them. -/
def mv32 {F : FTy → Type} [FloatOps F] (x : FVec F S8x4x101 .f32) : FVec F S8x4x101 .f32 :=
  concatenate S8x4x101 2 [⟨S8x4x32, broadcast S8x4x32 zero⟩, ⟨S8x4x69, extractStridedSlice S8x4x69 ![0, 0, 0] x slices_S8x4x101_o0_0_0_S8x4x69⟩] concatenates_S8x4x32_S8x4x69_S8x4x101_d2

/-- Rows moved 64 to the right, zeros before them. -/
def mv64 {F : FTy → Type} [FloatOps F] (x : FVec F S8x4x101 .f32) : FVec F S8x4x101 .f32 :=
  concatenate S8x4x101 2 [⟨S8x4x64, broadcast S8x4x64 zero⟩, ⟨S8x4x37, extractStridedSlice S8x4x37 ![0, 0, 0] x slices_S8x4x101_o0_0_0_S8x4x37⟩] concatenates_S8x4x64_S8x4x37_S8x4x101_d2

/-- Prefix sums by doubling, in seven steps. -/
def cum1 {F : FTy → Type} [FloatOps F] (x : FVec F S8x4x101 .f32) : FVec F S8x4x101 .f32 := addf x (mv1 x)
def cum2 {F : FTy → Type} [FloatOps F] (x : FVec F S8x4x101 .f32) : FVec F S8x4x101 .f32 := addf (cum1 x) (mv2 (cum1 x))
def cum4 {F : FTy → Type} [FloatOps F] (x : FVec F S8x4x101 .f32) : FVec F S8x4x101 .f32 := addf (cum2 x) (mv4 (cum2 x))
def cum8 {F : FTy → Type} [FloatOps F] (x : FVec F S8x4x101 .f32) : FVec F S8x4x101 .f32 := addf (cum4 x) (mv8 (cum4 x))
def cum16 {F : FTy → Type} [FloatOps F] (x : FVec F S8x4x101 .f32) : FVec F S8x4x101 .f32 := addf (cum8 x) (mv16 (cum8 x))
def cum32 {F : FTy → Type} [FloatOps F] (x : FVec F S8x4x101 .f32) : FVec F S8x4x101 .f32 := addf (cum16 x) (mv32 (cum16 x))
def cum64 {F : FTy → Type} [FloatOps F] (x : FVec F S8x4x101 .f32) : FVec F S8x4x101 .f32 := addf (cum32 x) (mv64 (cum32 x))

theorem pay9_eq {F : FTy → Type} [FloatOps F] [Named F] (v : IVec S8x101x512 1) (x : Vec F S8x4x101x512 .f32) :
    k0_pay9 v x = cum64 (mv1 (emRow v x)) := rfl

theorem mv1_at (x : FVec Ideal S8x4x101 .f32) (b : Fin 8) (r : Fin 4) (u : Fin 101) :
    mv1 x (ix3 b r u) = if h : u.val < 1 then (0 : EReal) else x (ix3 b r ⟨u.val - 1, by omega⟩) := by
  pointwise [mv1]
theorem mv2_at (x : FVec Ideal S8x4x101 .f32) (b : Fin 8) (r : Fin 4) (u : Fin 101) :
    mv2 x (ix3 b r u) = if h : u.val < 2 then (0 : EReal) else x (ix3 b r ⟨u.val - 2, by omega⟩) := by
  pointwise [mv2]
theorem mv4_at (x : FVec Ideal S8x4x101 .f32) (b : Fin 8) (r : Fin 4) (u : Fin 101) :
    mv4 x (ix3 b r u) = if h : u.val < 4 then (0 : EReal) else x (ix3 b r ⟨u.val - 4, by omega⟩) := by
  pointwise [mv4]
theorem mv8_at (x : FVec Ideal S8x4x101 .f32) (b : Fin 8) (r : Fin 4) (u : Fin 101) :
    mv8 x (ix3 b r u) = if h : u.val < 8 then (0 : EReal) else x (ix3 b r ⟨u.val - 8, by omega⟩) := by
  pointwise [mv8]
theorem mv16_at (x : FVec Ideal S8x4x101 .f32) (b : Fin 8) (r : Fin 4) (u : Fin 101) :
    mv16 x (ix3 b r u) = if h : u.val < 16 then (0 : EReal) else x (ix3 b r ⟨u.val - 16, by omega⟩) := by
  pointwise [mv16]
theorem mv32_at (x : FVec Ideal S8x4x101 .f32) (b : Fin 8) (r : Fin 4) (u : Fin 101) :
    mv32 x (ix3 b r u) = if h : u.val < 32 then (0 : EReal) else x (ix3 b r ⟨u.val - 32, by omega⟩) := by
  pointwise [mv32]
theorem mv64_at (x : FVec Ideal S8x4x101 .f32) (b : Fin 8) (r : Fin 4) (u : Fin 101) :
    mv64 x (ix3 b r u) = if h : u.val < 64 then (0 : EReal) else x (ix3 b r ⟨u.val - 64, by omega⟩) := by
  pointwise [mv64]

/-- Rows that hold the windows of length `k`, joined with themselves moved by `k`, hold those of twice the length. -/
theorem cum_step {k : ℕ} (f : ℕ → ℝ) (x y : FVec Ideal S8x4x101 .f32) (b : Fin 8) (r : Fin 4)
    (hx : ∀ u : Fin 101, x (ix3 b r u) = ((win f k u : ℝ) : EReal))
    (hy : ∀ u : Fin 101, y (ix3 b r u) = if h : u.val < k then (0 : EReal) else x (ix3 b r ⟨u.val - k, by omega⟩)) (u : Fin 101) :
    addf x y (ix3 b r u) = ((win f (k + k) u : ℝ) : EReal) := by
  change x (ix3 b r u) + y (ix3 b r u) = _
  rw [hx, hy, win_double]
  by_cases h : u.val < k
  · rw [dif_pos h, if_neg (by omega), add_zero, add_zero]
  · rw [dif_neg h, if_pos (by omega), hx, EReal.coe_add]

theorem cum_at (f : ℕ → ℝ) (x : FVec Ideal S8x4x101 .f32) (b : Fin 8) (r : Fin 4)
    (hx : ∀ u : Fin 101, x (ix3 b r u) = ((f u : ℝ) : EReal)) (u : Fin 101) :
    cum64 x (ix3 b r u) = ((∑ v ∈ Finset.range (u.val + 1), f v : ℝ) : EReal) := by
  rw [← win_full f (show u.val < 64 + 64 by omega)]
  have h1 := cum_step (k := 1) f x (mv1 x) b r (fun u => by rw [win_one, hx]) (mv1_at x b r)
  have h2 := cum_step (k := 2) f (cum1 x) (mv2 (cum1 x)) b r h1 (mv2_at _ b r)
  have h4 := cum_step (k := 4) f (cum2 x) (mv4 (cum2 x)) b r h2 (mv4_at _ b r)
  have h8 := cum_step (k := 8) f (cum4 x) (mv8 (cum4 x)) b r h4 (mv8_at _ b r)
  have h16 := cum_step (k := 16) f (cum8 x) (mv16 (cum8 x)) b r h8 (mv16_at _ b r)
  have h32 := cum_step (k := 32) f (cum16 x) (mv32 (cum16 x)) b r h16 (mv32_at _ b r)
  exact cum_step (k := 64) f (cum32 x) (mv64 (cum32 x)) b r h32 (mv64_at _ b r) u

theorem mark_at (x : Vec Ideal S8x101 .i32) (k : Fin 8) (u : Fin 101) (v : Fin 512) :
    k0_pay31 (F := Ideal) x (ix3 k u v) = IntOp.cmpi .eq (BitVec.ofNat 32 v.val) (x (ix2 k u)) := by
  pointwise [k0_pay31]

theorem pay7_at (X : Fin 8 → Fin 4 → Fin 101 → Fin 512 → ℝ) (x : Vec Ideal S8x4x101x512 .f32)
    (hx : ∀ k r u v, x (ix4 k r u v) = ((X k r u v : ℝ) : EReal)) (k : Fin 8) (r : Fin 4) (u : Fin 101) :
    k0_pay7 x (ix3 k r u) = ((lse (X k r u) : ℝ) : EReal) := by
  rw [← log_sum_exp]
  pointwise [k0_pay7, hx]

theorem pay8_at (X : Fin 8 → Fin 4 → Fin 101 → Fin 512 → ℝ) (x : Vec Ideal S8x4x101x512 .f32)
    (hx : ∀ k r u v, x (ix4 k r u v) = ((X k r u v : ℝ) : EReal)) (k : Fin 8) (r : Fin 4) (u : Fin 101) :
    k0_pay8 x (ix3 k r u) = ((X k r u 0 - lse (X k r u) : ℝ) : EReal) := by
  rw [EReal.coe_sub, ← pay7_at X x hx, ← hx]
  pointwise [k0_pay8]

theorem emRow_at (X : Fin 8 → Fin 4 → Fin 101 → Fin 512 → ℝ) (x : Vec Ideal S8x4x101x512 .f32)
    (hx : ∀ k r u v, x (ix4 k r u v) = ((X k r u v : ℝ) : EReal)) (lab : Fin 8 → Fin 101 → Fin 512) (x2 : Vec Ideal S8x101 .i32)
    (hl : ∀ k u, x2 (ix2 k u) = BitVec.ofNat 32 (lab k u).val) (k : Fin 8) (r : Fin 4) (u : Fin 101) :
    emRow (k0_pay31 (F := Ideal) x2) x (ix3 k r u) = ((X k r u (lab k u) - lse (X k r u) : ℝ) : EReal) := by
  rw [EReal.coe_sub, ← pay7_at X x hx, ← hx]
  pointwise [emRow]
  refine congrArg (· - _) ?_
  rw [Finset.sum_eq_single (lab k u)]
  · rw [mark_at, hl, sel_nat _ _ (by omega) (by omega), if_pos rfl]
  · intro v _ hv
    rw [mark_at, hl, sel_nat _ _ (by omega) (by omega), if_neg (fun e => hv (Fin.ext e))]
  · intro h; exact absurd (Finset.mem_univ _) h

theorem pay9_at (X : Fin 8 → Fin 4 → Fin 101 → Fin 512 → ℝ) (x : Vec Ideal S8x4x101x512 .f32)
    (hx : ∀ k r u v, x (ix4 k r u v) = ((X k r u v : ℝ) : EReal)) (lab : Fin 8 → Fin 101 → Fin 512) (x2 : Vec Ideal S8x101 .i32)
    (hl : ∀ k u, x2 (ix2 k u) = BitVec.ofNat 32 (lab k u).val) (k : Fin 8) (r : Fin 4) (g : ℕ → ℝ)
    (hg : ∀ u : Fin 101, g u = X k r u (lab k u) - lse (X k r u)) (u : Fin 101) :
    k0_pay9 (k0_pay31 (F := Ideal) x2) x (ix3 k r u) = ((∑ v ∈ Finset.range u.val, g v : ℝ) : EReal) := by
  rw [pay9_eq, cum_at (fun v => if v = 0 then 0 else g (v - 1)) _ k r ?_ u, Finset.sum_range_succ']
  · simp
  · intro u
    rw [mv1_at]
    by_cases h : u.val = 0
    · rw [dif_pos (by omega), if_pos h]; rfl
    · rw [dif_neg (by omega), if_neg h, emRow_at X x hx lab x2 hl, ← hg]

/-- The staged blank scores of a block of real logits. -/
theorem stB_at (X : Fin 8 → Fin 8 → Fin 101 → Fin 512 → ℝ) (x : Vec Ideal S8x8x101x512 .f32)
    (hx : ∀ k r u v, x (ix4 k r u v) = ((X k r u v : ℝ) : EReal)) (r k : Fin 8) (u : Fin 101) :
    stB x (ix3 r k u) = ((X k r u 0 - lse (X k r u) : ℝ) : EReal) := by
  by_cases h : r.val < 4
  · have e : stB x (ix3 r k u) = k0_pay8 (chunkLo x) (ix3 k ⟨r.val, h⟩ u) := dif_pos h
    rw [e, pay8_at (fun k r u v => X k ⟨r.val, by omega⟩ u v) (chunkLo x) (fun k r u v => hx k _ u v)]
  · have e : stB x (ix3 r k u) = k0_pay8 (chunkHi x) (ix3 k ⟨r.val - 4, by omega⟩ u) := dif_neg h
    rw [e, pay8_at (fun k r u v => X k ⟨4 + r.val, by omega⟩ u v) (chunkHi x) (fun k r u v => hx k _ u v)]
    have : (⟨4 + (r.val - 4), by omega⟩ : Fin 8) = r := Fin.ext (by simp; omega)
    simp only [this]

/-- The staged emission prefixes of a block of real logits. -/
theorem stC_at (X : Fin 8 → Fin 8 → Fin 101 → Fin 512 → ℝ) (x : Vec Ideal S8x8x101x512 .f32)
    (hx : ∀ k r u v, x (ix4 k r u v) = ((X k r u v : ℝ) : EReal)) (lab : Fin 8 → Fin 101 → Fin 512) (x2 : Vec Ideal S8x101 .i32)
    (hl : ∀ k u, x2 (ix2 k u) = BitVec.ofNat 32 (lab k u).val) (r k : Fin 8) (g : ℕ → ℝ)
    (hg : ∀ u : Fin 101, g u = X k r u (lab k u) - lse (X k r u)) (u : Fin 101) :
    stC (k0_pay31 (F := Ideal) x2) x (ix3 r k u) = ((∑ v ∈ Finset.range u.val, g v : ℝ) : EReal) := by
  by_cases h : r.val < 4
  · have e : stC (k0_pay31 (F := Ideal) x2) x (ix3 r k u) = k0_pay9 (k0_pay31 (F := Ideal) x2) (chunkLo x) (ix3 k ⟨r.val, h⟩ u) := dif_pos h
    rw [e]
    exact pay9_at (fun k r u v => X k ⟨r.val, by omega⟩ u v) (chunkLo x) (fun k r u v => hx k _ u v) lab x2 hl k _ g hg u
  · have e : stC (k0_pay31 (F := Ideal) x2) x (ix3 r k u) = k0_pay9 (k0_pay31 (F := Ideal) x2) (chunkHi x) (ix3 k ⟨r.val - 4, by omega⟩ u) := dif_neg h
    rw [e]
    refine pay9_at (fun k r u v => X k ⟨4 + r.val, by omega⟩ u v) (chunkHi x) (fun k r u v => hx k _ u v) lab x2 hl k _ g (fun u => ?_) u
    have : (⟨4 + (r.val - 4), by omega⟩ : Fin 8) = r := Fin.ext (by simp; omega)
    simp only [this]
    exact hg u

end Cert.Proof.KernelIdeal
-- ==== Proof.KernelIdeal.Blocks.lean ====
/-
  What the input windows hold at each grid point, read from the argument arrays: eight frames of logits, the labels, the last
  position and the last frame of each batch.
-/
module

public import proofs.«01_k».proof.Proof.Math.Data
public import proofs.«01_k».proof.Proof.KernelIdeal.StageValue
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Lattice

variable (m : (ℓ : Loc nD τ sig) → Buf (Elt Ideal) ℓ)

theorem idx (t : Fin cfg0.N) :
    ((cfg0.win 0).index t 0 = 0 ∧ (cfg0.win 0).index t 1 = min t.val 24 ∧ (cfg0.win 0).index t 2 = 0 ∧ (cfg0.win 0).index t 3 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0) := by
  revert t; decide +kernel

/-- Window 0 at a staging point: frames 8t to 8t+7. -/
theorem blk0 (c : Dev nD) (t : Fin cfg0.N) (ht : t.val < 25) (k r : Fin 8) (u : Fin 101) (v : Fin 512) :
    iblk m c 0 t (ix4 k r u v) = m ((c.tc : Thread nD τ).loc main_arg0) (ix4 k (⟨8 * t.val + r.val, by omega⟩ : Fin 200) u v) := by
  have := idx t
  have hm : min t.val 24 = t.val := by omega
  rw [hm] at this
  blk_ext [iblk, V, this]

/-- The labels as the kernel is handed them: moved one to the left, 0 in the last column. -/
def labels (a : IVec S8x101 32) : IVec S8x101 32 :=
  concatenate S8x101 1 [⟨S8x100, extractStridedSlice S8x100 ![0, 1] a slices_S8x101_S8x100_0_1⟩,
    ⟨S8x1, broadcastInDim S8x1 ![] bcast_S_S8x1 (constantI S_ 32 0#32)⟩] concatenates_S8x100_S8x1_S8x101_d1

theorem main_v2_eq (c : Dev nD) : V m c main_v2 = labels (m ((c.tc : Thread nD τ).loc main_arg1)) := by
  unfold_abbrev_sides
  simp only [List.flatten_cons, List.flatten_nil, List.append_nil]
  after_reads_simp
  rfl

/-- An array of lengths less 1, as a column. -/
def lessOne (a : IVec S8 32) : IVec S8x1 32 :=
  shapeCast S8x1 (subi a (broadcastInDim S8 ![] bcast_S_S8 (constantI S_ 32 1#32))) shapeCasts_S8_S8x1

theorem main_v5_eq (c : Dev nD) : V m c main_v5 = lessOne (m ((c.tc : Thread nD τ).loc main_arg3)) := by
  unfold_abbrev_sides
  simp only [List.flatten_cons, List.flatten_nil, List.append_nil]
  after_reads_simp
  rfl

theorem main_v8_eq (c : Dev nD) : V m c main_v8 = lessOne (m ((c.tc : Thread nD τ).loc main_arg2)) := by
  unfold_abbrev_sides
  simp only [List.flatten_cons, List.flatten_nil, List.append_nil]
  after_reads_simp
  rfl

/-- Window 1: the labels moved one to the left, 0 in the last column. -/
theorem blk1 (c : Dev nD) (t : Fin cfg0.N) (k : Fin 8) (u : Fin 101) :
    iblk m c 1 t (ix2 k u) = if h : u.val < 100 then m ((c.tc : Thread nD τ).loc main_arg1) (ix2 k (⟨u.val + 1, by omega⟩ : Fin 101)) else 0#32 := by
  have := idx t
  have e : iblk m c 1 t (ix2 k u) = V m c main_v2 (ix2 k u) := by blk_ext [iblk, this]
  rw [e]; clear e this
  rw [main_v2_eq]
  pointwise [labels]
  simp only [Nat.add_comm 1]

theorem blk2 (c : Dev nD) (t : Fin cfg0.N) (k : Fin 8) :
    iblk m c 2 t (ix2 k (0 : Fin 1)) = subi (s := S8) (w := 32) (m ((c.tc : Thread nD τ).loc main_arg3)) (constantI S8 32 1#32) (ix1 k) := by
  have := idx t
  have e : iblk m c 2 t (ix2 k (0 : Fin 1)) = V m c main_v5 (ix2 k (0 : Fin 1)) := by blk_ext [iblk, this]
  rw [e]; clear e this
  rw [main_v5_eq]
  pointwise [lessOne]

theorem blk3 (c : Dev nD) (t : Fin cfg0.N) (k : Fin 8) :
    iblk m c 3 t (ix2 k (0 : Fin 1)) = subi (s := S8) (w := 32) (m ((c.tc : Thread nD τ).loc main_arg2)) (constantI S8 32 1#32) (ix1 k) := by
  have := idx t
  have e : iblk m c 3 t (ix2 k (0 : Fin 1)) = V m c main_v8 (ix2 k (0 : Fin 1)) := by blk_ext [iblk, this]
  rw [e]; clear e this
  rw [main_v8_eq]
  pointwise [lessOne]

end Cert.Proof.KernelIdeal

end
-- ==== Proof.KernelIdeal.Exact.lean ====
/-
  The body run once, with the exact contents it leaves: the eight row steps over what the point before staged, the block
  of this point staged in turn, and at the last point the mean written out.
-/
module

public import proofs.«01_k».proof.Proof.KernelIdeal.Body
public import proofs.«01_k».proof.Proof.KernelIdeal.Stage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the rows of a grid point start from, read off the buffers. -/
def rowIn (a : BitVec 32) (x3 x4 : Vec F S8x1 .i32) (d6 d7 : FVec F S8x101 .f32) (acc : FVec F S8x1 .f32) (d9 d10 : FVec F S8x8x101 .f32) : RowIn F :=
  ⟨a, k0_pay32 (F := F) x3, k0_pay33 (F := F) x4, d6, d7, acc, rowLd d9, rowLd d10⟩

/-- The same, as the body's loads. -/
def rowLoads (a : BitVec 32) {s3 s4 s6 s7 s9 s10 : Space} (v3 : View sig .tc s3 S8x1 .i32) (f3 : v3.ty.Contents (Elt F))
    (v4 : View sig .tc s4 S8x1 .i32) (f4 : v4.ty.Contents (Elt F))
    (v6 : View sig .tc s6 S8x101 .f32) (f6 : v6.ty.Contents (Elt F)) (v7 : View sig .tc s7 S8x101 .f32) (f7 : v7.ty.Contents (Elt F)) (acc : FVec F S8x1 .f32)
    (v9 : View sig .tc s9 S8x8x101 .f32) (f9 : v9.ty.Contents (Elt F)) (v10 : View sig .tc s10 S8x8x101 .f32) (f10 : v10.ty.Contents (Elt F)) : RowIn F :=
  ⟨a, k0_pay32 (F := F) (View.readAt (Elt F) v3 (Rect.unit (s := S8x1) ![0, 0] S8x1.size (by decide)).toLoadRect f3),
    k0_pay33 (F := F) (View.readAt (Elt F) v4 (Rect.unit (s := S8x1) ![0, 0] S8x1.size (by decide)).toLoadRect f4),
    View.readAt (Elt F) v6 (Rect.unit (s := S8x101) ![0, 0] S8x101.size (by decide)).toLoadRect f6,
    View.readAt (Elt F) v7 (Rect.unit (s := S8x101) ![0, 0] S8x101.size (by decide)).toLoadRect f7, acc,
    fun k => View.readAt (Elt F) v9 (Rect.unit (s := S8x8x101) ![k.val, 0, 0] S1x8x101.size (inbRow k)).toLoadRect f9,
    fun k => View.readAt (Elt F) v10 (Rect.unit (s := S8x8x101) ![k.val, 0, 0] S1x8x101.size (inbRow k)).toLoadRect f10⟩

theorem z1 : (![0, 0] : Fin 2 → ℕ) = fun _ => 0 := by decide

theorem rowLoads_eq (a : BitVec 32) {s3 s4 s6 s7 s9 s10 : Space} (v3 : View sig .tc s3 S8x1 .i32) (f3 : v3.ty.Contents (Elt F))
    (v4 : View sig .tc s4 S8x1 .i32) (f4 : v4.ty.Contents (Elt F))
    (v6 : View sig .tc s6 S8x101 .f32) (f6 : v6.ty.Contents (Elt F)) (v7 : View sig .tc s7 S8x101 .f32) (f7 : v7.ty.Contents (Elt F)) (acc acc' : FVec F S8x1 .f32) (h : acc = acc')
    (v9 : View sig .tc s9 S8x8x101 .f32) (f9 : v9.ty.Contents (Elt F)) (v10 : View sig .tc s10 S8x8x101 .f32) (f10 : v10.ty.Contents (Elt F)) :
    rowLoads a v3 f3 v4 f4 v6 f6 v7 f7 acc v9 f9 v10 f10
      = rowIn a (v3.read (Elt F) f3) (v4.read (Elt F) f4) (v6.read (Elt F) f6) (v7.read (Elt F) f7) acc' (v9.read (Elt F) f9) (v10.read (Elt F) f10) := by
  unfold rowLoads rowIn
  rw [load_whole (S := S8x1) v3 f3 z1, load_whole (S := S8x1) v4 f4 z1, load_whole (S := S8x101) v6 f6 z1, load_whole (S := S8x101) v7 f7 z1, h]
  congr 1
  · funext k; exact load_row v9 f9 k
  · funext k; exact load_row v10 f10 k

set_option maxHeartbeats 2000000 in
theorem exact_kernel (c : Dev nD) (E : Set ℕ) (i : grid0.Coords)
    (arg1 : Memref sig .tc .vmem S8x8x101x512 .f32) (harg1 : arg1.IsWhole) (arg2 : Memref sig .tc .vmem S8x101 .i32) (harg2 : arg2.IsWhole)
    (arg3 : Memref sig .tc .vmem S8x1 .i32) (harg3 : arg3.IsWhole) (arg4 : Memref sig .tc .vmem S8x1 .i32) (harg4 : arg4.IsWhole)
    (arg5 : Memref sig .tc .vmem S1x1 .f32) (harg5 : arg5.IsWhole) (arg6 : Memref sig .tc .vmem S8x101 .f32) (harg6 : arg6.IsWhole)
    (arg7 : Memref sig .tc .vmem S8x101 .f32) (harg7 : arg7.IsWhole) (arg8 : Memref sig .tc .vmem S8x1 .f32) (harg8 : arg8.IsWhole)
    (arg9 : Memref sig .tc .vmem S8x8x101 .f32) (harg9 : arg9.IsWhole) (arg10 : Memref sig .tc .vmem S8x8x101 .f32) (harg10 : arg10.IsWhole)
    (x1 : Vec F S8x8x101x512 .f32) (x2 : Vec F S8x101 .i32) (x3 : Vec F S8x1 .i32) (x4 : Vec F S8x1 .i32)
    (d5 n5 : Vec F S1x1 .f32) (d6 d7 : FVec F S8x101 .f32) (d8 acc : FVec F S8x1 .f32) (d9 d10 n9 n10 : FVec F S8x8x101 .f32)
    (hcase : (First i ∧ Staging i ∧ ¬ Last i ∧ acc = k0_pay34 ∧ n5 = d5 ∧ n9 = stB x1 ∧ n10 = stC (k0_pay31 (F := F) x2) x1)
      ∨ (¬ First i ∧ Staging i ∧ ¬ Last i ∧ acc = d8 ∧ n5 = d5 ∧ n9 = stB x1 ∧ n10 = stC (k0_pay31 (F := F) x2) x1)
      ∨ (¬ First i ∧ ¬ Staging i ∧ Last i ∧ acc = d8 ∧ n5 = k0_pay6 (st8 (rowIn (BitVec.ofNat 32 (i 0).val) x3 x4 d6 d7 acc d9 d10)).acc ∧ n9 = d9 ∧ n10 = d10))
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare d5
        ∗ owns (c : Thread nD τ) arg6 fullShare d6 ∗ owns (c : Thread nD τ) arg7 fullShare d7 ∗ owns (c : Thread nD τ) arg8 fullShare d8
        ∗ owns (c : Thread nD τ) arg9 fullShare d9 ∗ owns (c : Thread nD τ) arg10 fullShare d10
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare n5
        ∗ owns (c : Thread nD τ) arg6 fullShare (st8 (rowIn (BitVec.ofNat 32 (i 0).val) x3 x4 d6 d7 acc d9 d10)).P
        ∗ owns (c : Thread nD τ) arg7 fullShare (st8 (rowIn (BitVec.ofNat 32 (i 0).val) x3 x4 d6 d7 acc d9 d10)).b
        ∗ owns (c : Thread nD τ) arg8 fullShare (st8 (rowIn (BitVec.ofNat 32 (i 0).val) x3 x4 d6 d7 acc d9 d10)).acc
        ∗ owns (c : Thread nD τ) arg9 fullShare n9 ∗ owns (c : Thread nD τ) arg10 fullShare n10) -∗ K ⟨⟩))
      ⊢ wp frame (wpE (defs₀ (F := F)) Variants.none c none) E
        (cc0__lambda_ i arg1 harg1 arg2 harg2 arg3 harg3 arg4 harg4 arg5 harg5 arg6 harg6 arg7 harg7 arg8 harg8 arg9 harg9 arg10 harg10) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  have hX := fun av h => rowLoads_eq (F := F) (BitVec.ofNat 32 (i 0).val) arg3.view f3 arg4.view f4 arg6.view f6 arg7.view f7 av acc h arg9.view f9 arg10.view f10
  rcases hcase with ⟨h1, h2, h3, hacc, hn5, hn9, hn10⟩ | ⟨h1, h2, h3, hacc, hn5, hn9, hn10⟩ | ⟨h1, h2, h3, hacc, hn5, hn9, hn10⟩
  · subst hacc hn9 hn10
    have hX := hX (View.readCov (Val := Elt F) arg8.view [(⟨Rect.unit (s := S8x1) ![0, 0] S8x1.size (by decide), k0_pay34 (F := F)⟩ : View.Piece (Elt F) S8x1 .f32)] (Rect.unit (s := S8x1) ![0, 0] S8x1.size (by decide)).toLoadRect) (View.readCov_unit_zero (S := S8x1) arg8.view z1 (by decide) _)
    sl_exec!
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact hn5.symm
    isplitl [H6]
    · iexists _; isplitr; swap; · iexact H6
      ipureintro
      exact (whole_stored (S := S8x101) _ _ z1 _ _ _).trans ((show _ = w77 (rowLoads (F := F) (BitVec.ofNat 32 (i 0).val) arg3.view f3 arg4.view f4 arg6.view f6 arg7.view f7 (View.readCov (Val := Elt F) arg8.view [(⟨Rect.unit (s := S8x1) ![0, 0] S8x1.size (by decide), k0_pay34 (F := F)⟩ : View.Piece (Elt F) S8x1 .f32)] (Rect.unit (s := S8x1) ![0, 0] S8x1.size (by decide)).toLoadRect) arg9.view f9 arg10.view f10) from by sl_kernel_rfl).trans ((rows_P _).trans ((shapeCast_self _ _).trans (congrArg (fun X => (st8 X).P) hX))))
    isplitl [H7]
    · iexists _; isplitr; swap; · iexact H7
      ipureintro
      exact (whole_stored (S := S8x101) _ _ z1 _ _ _).trans ((shapeCast_self _ _).trans ((show _ = w68 (rowLoads (F := F) (BitVec.ofNat 32 (i 0).val) arg3.view f3 arg4.view f4 arg6.view f6 arg7.view f7 (View.readCov (Val := Elt F) arg8.view [(⟨Rect.unit (s := S8x1) ![0, 0] S8x1.size (by decide), k0_pay34 (F := F)⟩ : View.Piece (Elt F) S8x1 .f32)] (Rect.unit (s := S8x1) ![0, 0] S8x1.size (by decide)).toLoadRect) arg9.view f9 arg10.view f10) from by sl_kernel_rfl).trans ((rows_b _).trans (congrArg (fun X => (st8 X).b) hX))))
    isplitl [H8]
    · iexists _; isplitr; swap; · iexact H8
      ipureintro
      exact (whole_stored (S := S8x1) _ _ z1 _ _ _).trans ((shapeCast_self _ _).trans ((show _ = w76 (rowLoads (F := F) (BitVec.ofNat 32 (i 0).val) arg3.view f3 arg4.view f4 arg6.view f6 arg7.view f7 (View.readCov (Val := Elt F) arg8.view [(⟨Rect.unit (s := S8x1) ![0, 0] S8x1.size (by decide), k0_pay34 (F := F)⟩ : View.Piece (Elt F) S8x1 .f32)] (Rect.unit (s := S8x1) ![0, 0] S8x1.size (by decide)).toLoadRect) arg9.view f9 arg10.view f10) from by sl_kernel_rfl).trans ((rows_acc _).trans (congrArg (fun X => (st8 X).acc) hX))))
    isplitl [H9]
    · iexists _; isplitr; swap; · iexact H9
      ipureintro
      refine Eq.trans ?_ (rows_stored (rowsB (k0_pay8 (chunkLo (arg1.view.read (Elt F) f1))) (k0_pay20 (chunkHi (arg1.view.read (Elt F) f1)))) _ (rowsB_at _) arg9.view arg9.view.junk)
      rw [← load_lo, ← load_hi]; rfl
    · iexists _; isplitr; swap; · iexact H10
      ipureintro
      refine Eq.trans ?_ (rows_stored (rowsC (k0_pay9 (k0_pay31 (F := F) (arg2.view.read (Elt F) f2)) (chunkLo (arg1.view.read (Elt F) f1))) (k0_pay21 (k0_pay31 (F := F) (arg2.view.read (Elt F) f2)) (chunkHi (arg1.view.read (Elt F) f1))) k0_pay22 (k0_pay23 (k0_pay31 (F := F) (arg2.view.read (Elt F) f2)) (chunkHi (arg1.view.read (Elt F) f1)))) _ (rowsC_at _ _) arg10.view arg10.view.junk)
      rw [← load_lo, ← load_hi, ← load_whole (S := S8x101) arg2.view f2 z1 (by decide)]; rfl
  · subst hacc hn9 hn10
    have hX := hX (View.readAt (Elt F) arg8.view (Rect.unit (s := S8x1) ![0, 0] S8x1.size (by decide)).toLoadRect f8) (load_whole (S := S8x1) arg8.view f8 z1 (by decide))
    sl_exec!
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact hn5.symm
    isplitl [H6]
    · iexists _; isplitr; swap; · iexact H6
      ipureintro
      exact (whole_stored (S := S8x101) _ _ z1 _ _ _).trans ((show _ = w77 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_P _).trans ((shapeCast_self _ _).trans (congrArg (fun X => (st8 X).P) hX))))
    isplitl [H7]
    · iexists _; isplitr; swap; · iexact H7
      ipureintro
      exact (whole_stored (S := S8x101) _ _ z1 _ _ _).trans ((shapeCast_self _ _).trans ((show _ = w68 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_b _).trans (congrArg (fun X => (st8 X).b) hX))))
    isplitl [H8]
    · iexists _; isplitr; swap; · iexact H8
      ipureintro
      exact (whole_stored (S := S8x1) _ _ z1 _ _ _).trans ((shapeCast_self _ _).trans ((show _ = w76 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_acc _).trans (congrArg (fun X => (st8 X).acc) hX))))
    isplitl [H9]
    · iexists _; isplitr; swap; · iexact H9
      ipureintro
      refine Eq.trans ?_ (rows_stored (rowsB (k0_pay8 (chunkLo (arg1.view.read (Elt F) f1))) (k0_pay20 (chunkHi (arg1.view.read (Elt F) f1)))) _ (rowsB_at _) arg9.view arg9.view.junk)
      rw [← load_lo, ← load_hi]; rfl
    · iexists _; isplitr; swap; · iexact H10
      ipureintro
      refine Eq.trans ?_ (rows_stored (rowsC (k0_pay9 (k0_pay31 (F := F) (arg2.view.read (Elt F) f2)) (chunkLo (arg1.view.read (Elt F) f1))) (k0_pay21 (k0_pay31 (F := F) (arg2.view.read (Elt F) f2)) (chunkHi (arg1.view.read (Elt F) f1))) k0_pay22 (k0_pay23 (k0_pay31 (F := F) (arg2.view.read (Elt F) f2)) (chunkHi (arg1.view.read (Elt F) f1)))) _ (rowsC_at _ _) arg10.view arg10.view.junk)
      rw [← load_lo, ← load_hi, ← load_whole (S := S8x101) arg2.view f2 z1 (by decide)]; rfl
  · subst hacc hn9 hn10
    have hX := hX (View.readAt (Elt F) arg8.view (Rect.unit (s := S8x1) ![0, 0] S8x1.size (by decide)).toLoadRect f8) (load_whole (S := S8x1) arg8.view f8 z1 (by decide))
    sl_exec!
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      refine Eq.trans ?_ hn5.symm
      exact (whole_stored (S := S1x1) _ _ z1 _ _ _).trans (congrArg k0_pay6 ((show _ = w76 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_acc _).trans (congrArg (fun X => (st8 X).acc) hX))))
    isplitl [H6]
    · iexists _; isplitr; swap; · iexact H6
      ipureintro
      exact (whole_stored (S := S8x101) _ _ z1 _ _ _).trans ((show _ = w77 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_P _).trans ((shapeCast_self _ _).trans (congrArg (fun X => (st8 X).P) hX))))
    isplitl [H7]
    · iexists _; isplitr; swap; · iexact H7
      ipureintro
      exact (whole_stored (S := S8x101) _ _ z1 _ _ _).trans ((shapeCast_self _ _).trans ((show _ = w68 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_b _).trans (congrArg (fun X => (st8 X).b) hX))))
    isplitl [H8]
    · iexists _; isplitr; swap; · iexact H8
      ipureintro
      exact (whole_stored (S := S8x1) _ _ z1 _ _ _).trans ((shapeCast_self _ _).trans ((show _ = w76 (rowLoads (F := F) (BitVec.ofNat 32 (i 0).val) arg3.view f3 arg4.view f4 arg6.view f6 arg7.view f7 (View.readAt (Elt F) arg8.view (Rect.unit (s := S8x1) ![0, 0] S8x1.size (by decide)).toLoadRect f8) arg9.view f9 arg10.view f10) from by sl_kernel_rfl).trans ((rows_acc _).trans (congrArg (fun X => (st8 X).acc) hX))))
    isplitl [H9]
    · iexists _; isplitr; swap; · iexact H9
      ipureintro
      rfl
    · iexists _; isplitr; swap; · iexact H10
      ipureintro
      rfl

end Cert.Proof.KernelIdeal
-- ==== Proof.KernelIdeal.Track.lean ====
/-
  What the scratch buffers hold before each grid point: the forward scores, the blank scores and the accumulator of the frames
  done so far, and the staged scores of the eight frames to be done next.
-/
module

public import proofs.«01_k».proof.Proof.KernelIdeal.Blocks
public import proofs.«01_k».proof.Proof.KernelIdeal.Exact

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Lattice

variable (D : Data)

/-- The contents of the five scratch buffers before point t. -/
structure Track (t : ℕ) (d6 d7 : FVec Ideal S8x101 .f32) (d8 : FVec Ideal S8x1 .f32) (d9 d10 : FVec Ideal S8x8x101 .f32) : Prop where
  inv : Inv D.bl D.em D.T D.U (8 * (t - 1)) ⟨d6, d7, d8⟩
  bl : 1 ≤ t → ∀ (r k : Fin 8) (u : Fin 101), d9 (ix3 r k u) = ((D.bl k (8 * (t - 1) + r.val) u : ℝ) : EReal)
  cl : 1 ≤ t → ∀ (r k : Fin 8) (u : Fin 101), d10 (ix3 r k u) = ((pre (D.em k) (8 * (t - 1) + r.val) u : ℝ) : EReal)

theorem track_zero (d6 d7 d8 d9 d10) : Track D 0 d6 d7 d8 d9 d10 :=
  ⟨inv_zero _, fun h => absurd h (by omega), fun h => absurd h (by omega)⟩

variable {D} {m : (ℓ : Loc nD τ sig) → Buf (Elt Ideal) ℓ} {c : Dev nD}

/-- The arguments of a core hold the data. -/
abbrev Holds (D : Data) (m : (ℓ : Loc nD τ sig) → Buf (Elt Ideal) ℓ) (c : Dev nD) : Prop :=
  IsData D (m ((c.tc : Thread nD τ).loc main_arg0)) (m ((c.tc : Thread nD τ).loc main_arg1)) (m ((c.tc : Thread nD τ).loc main_arg2)) (m ((c.tc : Thread nD τ).loc main_arg3))

theorem less_one {a : IVec S8 32} {k : Fin 8} {n : ℕ} (h : a (ix1 k) = BitVec.ofNat 32 (n + 1)) :
    subi (s := S8) (w := 32) a (constantI S8 32 1#32) (ix1 k) = BitVec.ofNat 32 n := by
  refine (congrArg (· - 1#32) h).trans ?_
  rw [BitVec.ofNat_add]
  exact BitVec.add_sub_cancel _ _

theorem blk1_lab (h : Holds D m c) (t : Fin cfg0.N) (k : Fin 8) (u : Fin 101) : iblk m c 1 t (ix2 k u) = BitVec.ofNat 32 (D.L k u).val := by
  rw [blk1]
  split_ifs with hu
  · exact h.labels k u hu
  · rw [show u.val = 100 by omega, D.hL]; rfl

theorem blk2_last (h : Holds D m c) (t : Fin cfg0.N) (k : Fin 8) : iblk m c 2 t (ix2 k (0 : Fin 1)) = BitVec.ofNat 32 (D.U k) := by
  rw [blk2]
  exact less_one (h.texts k)

theorem blk3_last (h : Holds D m c) (t : Fin cfg0.N) (k : Fin 8) : iblk m c 3 t (ix2 k (0 : Fin 1)) = BitVec.ofNat 32 (D.T k) := by
  rw [blk3]
  exact less_one (h.frames k)

/-- The rows that point t runs, from what it finds. -/
abbrev rowsOf (m : (ℓ : Loc nD τ sig) → Buf (Elt Ideal) ℓ) (c : Dev nD) (t : Fin cfg0.N) (d6 d7 : FVec Ideal S8x101 .f32) (acc : FVec Ideal S8x1 .f32) (d9 d10 : FVec Ideal S8x8x101 .f32) : RowIn Ideal :=
  rowIn (BitVec.ofNat 32 ((grid0.coords t) 0).val) (iblk m c 2 t) (iblk m c 3 t) d6 d7 acc d9 d10

theorem coord (t : Fin cfg0.N) : ((grid0.coords t) 0).val = t.val := by
  revert t; decide +kernel

/-- After the rows of point t the state is eight frames further. -/
theorem rows_track (h : Holds D m c) (t : Fin cfg0.N) {d6 d7 d8 d9 d10} (acc : FVec Ideal S8x1 .f32) (hacc : 1 ≤ t.val → acc = d8)
    (hd : Track D t.val d6 d7 d8 d9 d10) : Inv D.bl D.em D.T D.U (8 * t.val) (st8 (rowsOf m c t d6 d7 acc d9 d10)) := by
  have hN : t.val < 26 := t.isLt
  by_cases ht : t.val = 0
  · rw [ht]; exact inv_zero _
  · obtain ⟨p, hp⟩ : ∃ p, t.val = p + 1 := ⟨t.val - 1, by omega⟩
    have hd' := hd
    rw [hp] at hd'
    rw [hp]
    refine rows_inv D.hT D.hU (by omega) (p := p) ?_ ?_ ?_
    · show BitVec.ofNat 32 ((grid0.coords t) 0).val = _
      rw [coord, hp]
    · refine ⟨fun k u => ?_, fun k => ?_, fun r k u => ?_, fun r k u => ?_⟩
      · show k0_pay32 (F := Ideal) (iblk m c 2 t) (ix2 k u) = _
        rw [fin_at, blk2_last h]
      · show k0_pay33 (F := Ideal) (iblk m c 3 t) (ix2 k 0) = _
        rw [tfin_at, blk3_last h]
      · exact hd'.bl (by omega) r k u
      · exact hd'.cl (by omega) r k u
    · have := hd'.inv
      rw [hacc (by omega)]
      exact this

/-- A staging point hands the next one what it needs. -/
theorem track_step (h : Holds D m c) (t : Fin cfg0.N) (ht : t.val < 25) {d6 d7 d8 d9 d10} (acc : FVec Ideal S8x1 .f32) (hacc : 1 ≤ t.val → acc = d8)
    (hd : Track D t.val d6 d7 d8 d9 d10) : Track D (t.val + 1) (st8 (rowsOf m c t d6 d7 acc d9 d10)).P (st8 (rowsOf m c t d6 d7 acc d9 d10)).b (st8 (rowsOf m c t d6 d7 acc d9 d10)).acc
      (stB (iblk m c 0 t)) (stC (k0_pay31 (F := Ideal) (iblk m c 1 t)) (iblk m c 0 t)) := by
  have hx : ∀ k r u v, iblk m c 0 t (ix4 k r u v) = ((D.X k (8 * t.val + r.val) u v : ℝ) : EReal) := fun k r u v => by
    rw [blk0 m c t ht]; exact h.logits k _ u v
  refine ⟨rows_track h t acc hacc hd, fun _ r k u => ?_, fun _ r k u => ?_⟩
  · exact stB_at (fun k r u v => D.X k (8 * t.val + r.val) u v) _ hx r k u
  · exact stC_at (fun k r u v => D.X k (8 * t.val + r.val) u v) _ hx (fun k u => D.L k u) _ (fun k u => blk1_lab h t k u) r k
      (fun u => D.em k (8 * t.val + r.val) u) (fun u => rfl) u

theorem val_eq (D : Data) (k : Fin 8) : Val D.bl D.em D.T D.U k = ((D.ll k : ℝ) : EReal) := by
  rw [Val, Lg_pos (alpha_pos _ _ _ _), Data.ll, EReal.coe_add]

/-- The result the last point computes. -/
theorem last_value (acc : FVec Ideal S8x1 .f32) (h : ∀ k : Fin 8, acc (ix2 k 0) = ((D.ll k : ℝ) : EReal)) (i : S1x1.Idx) :
    k0_pay6 (F := Ideal) acc i = ((D.loss : ℝ) : EReal) := by
  idx_vars i
  pointwise [k0_pay6]
  rw [show (∑ x : Fin 8, ∑ x_1 : Fin 1, acc (ix2 x 0)) = ((∑ k, D.ll k : ℝ) : EReal) by
    rw [coe_sum]; exact Finset.sum_congr rfl fun k _ => by rw [Fin.sum_univ_one, h], div_eight, zero_sub, ← EReal.coe_neg]
  rw [Data.loss, Finset.sum_neg_distrib, neg_div]

end Cert.Proof.KernelIdeal

end
-- ==== Proof.KernelIdeal.Value.lean ====
/-
  The value of the program: on arguments that hold the data, every run of @main ends with the loss of the data in the result's
  buffer.
-/
module

public import proofs.«01_k».proof.Proof.KernelIdeal.Track
public import proofs.«01_k».proof.Proof.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Lattice

local notation "𝕄" => MT nD τ sig Unit (Elt Ideal) ℕ (UR sig nD τ) ℕ

variable (D : Data) (m : (ℓ : Loc nD τ sig) → Buf (Elt Ideal) ℓ) (ρ : Dev nD → PrngReg)

/-- The invariant before point t: the scratch buffers at tracked contents (past the last point at any). -/
def Inv' (c : Dev nD) (t : ℕ) : sProp 𝕄 :=
  iprop((∃ (d6 d7 : FVec Ideal S8x101 .f32) (d8 : FVec Ideal S8x1 .f32) (d9 d10 : FVec Ideal S8x8x101 .f32), ⌜t ≤ 25 → Track D t d6 d7 d8 d9 d10⌝
    ∗ owns (c : Thread nD τ) (Memref.whole cc0_scratch0) fullShare d6
    ∗ owns (c : Thread nD τ) (Memref.whole cc0_scratch1) fullShare d7
    ∗ owns (c : Thread nD τ) (Memref.whole cc0_scratch2) fullShare d8
    ∗ owns (c : Thread nD τ) (Memref.whole cc0_scratch3) fullShare d9
    ∗ owns (c : Thread nD τ) (Memref.whole cc0_scratch4) fullShare d10)
    ∗ ∃ r, prngReg c r)

/-- The loss, as the one-element array the kernel writes. -/
def out : Vec Ideal S1x1 .f32 := fun _ => ((D.loss : ℝ) : EReal)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out D
  Φ t := Inv' D c t.val
  q _ := fullShare
  owed _ := 0

theorem A_eq (c : Dev nD) (w : Fin cfg0.W) : (dats D m 0 c).A w = V m c (Pipeline.arrRef spec0 w) := by
  dsimp only [dats]

theorem after0_0 (c : Dev nD) (t : Fin cfg0.N) : (dats D m 0 c).after 0 t = iblk m c 0 t := by dsimp only [dats]
theorem after0_1 (c : Dev nD) (t : Fin cfg0.N) : (dats D m 0 c).after 1 t = iblk m c 1 t := by dsimp only [dats]
theorem after0_2 (c : Dev nD) (t : Fin cfg0.N) : (dats D m 0 c).after 2 t = iblk m c 2 t := by dsimp only [dats]
theorem after0_3 (c : Dev nD) (t : Fin cfg0.N) : (dats D m 0 c).after 3 t = iblk m c 3 t := by dsimp only [dats]
theorem after0_4 (c : Dev nD) (t : Fin cfg0.N) : (dats D m 0 c).after 4 t = out D := by dsimp only [dats]

theorem before0_0 (c : Dev nD) (t : Fin cfg0.N) (d) : (dats D m 0 c).before 0 t d = iblk m c 0 t :=
  before0_0_of m (dats D m 0 c) (A_eq D m c 0) (after0_0 D m c) t d
theorem before0_1 (c : Dev nD) (t : Fin cfg0.N) (d) : (dats D m 0 c).before 1 t d = iblk m c 1 t :=
  before0_1_of m (dats D m 0 c) (A_eq D m c 1) (after0_1 D m c) t d
theorem before0_2 (c : Dev nD) (t : Fin cfg0.N) (d) : (dats D m 0 c).before 2 t d = iblk m c 2 t :=
  before0_2_of m (dats D m 0 c) (A_eq D m c 2) (after0_2 D m c) t d
theorem before0_3 (c : Dev nD) (t : Fin cfg0.N) (d) : (dats D m 0 c).before 3 t d = iblk m c 3 t :=
  before0_3_of m (dats D m 0 c) (A_eq D m c 3) (after0_3 D m c) t d

/-- The invariant, and every window at what it holds before point t, the result's at some d₄. -/
def pre_ (c : Dev nD) (t : Fin cfg0.N) (d4 : Vec Ideal S1x1 .f32) : sProp 𝕄 :=
  iprop(Inv' D c t.val ∗ (dats D m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare d4)

/-- and after it, the result's at n₄. -/
def post_ (c : Dev nD) (t : Fin cfg0.N) (n4 : Vec Ideal S1x1 .f32) : sProp 𝕄 :=
  iprop(Inv' D c (t.val + 1) ∗ (dats D m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare n4)

theorem conds (t : Fin cfg0.N) : (First (grid0.coords t) ↔ t.val = 0) ∧ (Staging (grid0.coords t) ↔ t.val < 25) ∧ (Last (grid0.coords t) ↔ t.val = 25) := by
  revert t; decide +kernel

/-- What point t leaves, by its place in the grid. -/
theorem cases_ {c : Dev nD} (h : Holds D m c) (t : Fin cfg0.N) (d4 : Vec Ideal S1x1 .f32) {d6 d7 d8 d9 d10} (hd : Track D t.val d6 d7 d8 d9 d10) :
    ∃ (acc : FVec Ideal S8x1 .f32) (n9 n10 : FVec Ideal S8x8x101 .f32),
      ((First (grid0.coords t) ∧ Staging (grid0.coords t) ∧ ¬ Last (grid0.coords t) ∧ acc = k0_pay34 ∧ (if t.val = 25 then out D else d4) = d4 ∧ n9 = stB (iblk m c 0 t) ∧ n10 = stC (k0_pay31 (F := Ideal) (iblk m c 1 t)) (iblk m c 0 t))
      ∨ (¬ First (grid0.coords t) ∧ Staging (grid0.coords t) ∧ ¬ Last (grid0.coords t) ∧ acc = d8 ∧ (if t.val = 25 then out D else d4) = d4 ∧ n9 = stB (iblk m c 0 t) ∧ n10 = stC (k0_pay31 (F := Ideal) (iblk m c 1 t)) (iblk m c 0 t))
      ∨ (¬ First (grid0.coords t) ∧ ¬ Staging (grid0.coords t) ∧ Last (grid0.coords t) ∧ acc = d8 ∧ (if t.val = 25 then out D else d4) = k0_pay6 (st8 (rowsOf m c t d6 d7 acc d9 d10)).acc ∧ n9 = d9 ∧ n10 = d10))
      ∧ (t.val < 25 → Track D (t.val + 1) (st8 (rowsOf m c t d6 d7 acc d9 d10)).P (st8 (rowsOf m c t d6 d7 acc d9 d10)).b (st8 (rowsOf m c t d6 d7 acc d9 d10)).acc n9 n10) := by
  have hN : t.val < 26 := t.isLt
  have hc := conds t
  rw [hc.1, hc.2.1, hc.2.2]
  by_cases h0 : t.val = 0
  · exact ⟨k0_pay34, _, _, .inl ⟨h0, by omega, by omega, rfl, if_neg (by omega), rfl, rfl⟩, fun ht => track_step h t ht _ (by omega) hd⟩
  · by_cases h1 : t.val = 25
    · refine ⟨d8, d9, d10, .inr (.inr ⟨h0, by omega, h1, rfl, ?_, rfl, rfl⟩), fun ht => absurd ht (by omega)⟩
      rw [if_pos h1]
      funext i
      refine (last_value _ (fun k => ?_) i).symm
      have := (rows_track h t d8 (fun _ => rfl) hd).acc k (by have := D.hT k; omega)
      rw [this, val_eq]
    · exact ⟨d8, _, _, .inr (.inl ⟨h0, by omega, h1, rfl, if_neg h1, rfl, rfl⟩), fun ht => track_step h t ht _ (fun _ => rfl) hd⟩

theorem sound_body {c : Dev nD} (h : Holds D m c) (t : Fin cfg0.N) (d4 : Vec Ideal S1x1 .f32) :
    pre_ D m c t d4 ⊢ wp frame (wpE (defs₀ (F := Ideal)) Variants.none c none) Set.univ (bodyAt0 t) (fun _ => post_ D m c t (if t.val = 25 then out D else d4)) := by
  unfold pre_ post_ bodyAt0 Inv'
  iintro ⟨⟨⟨%d6, %d7, %d8, %d9, %d10, %hd, S0, S1, S2, S3, S4⟩, HP⟩, Ho, H0, H1, H2, H3, H4⟩
  obtain ⟨acc, n9, n10, hcase, hnext⟩ := cases_ D m h t d4 (hd (by have : t.val < 26 := t.isLt; omega))
  iapply (exact_kernel (F := Ideal) c Set.univ (grid0.coords t) _ _ _ _ _ _ _ _ _ _ _ _ _ _ _ _ _ _ _ _ (iblk m c 0 t) (iblk m c 1 t) (iblk m c 2 t) (iblk m c 3 t) d4 (if t.val = 25 then out D else d4) d6 d7 d8 acc d9 d10 n9 n10 hcase _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  iintro ⟨H0, H1, H2, H3, H4, S0, S1, S2, S3, S4⟩
  isplitl [S0 S1 S2 S3 S4 HP]
  · isplitr [HP]; swap; · iexact HP
    iexists _, _, _, _, _
    isplitr; · ipureintro; exact fun ht => hnext (by omega)
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  iexact H4

/-- The result's window is idle and unwritten at every point but the last. -/
theorem idle4 (t : Fin cfg0.N) : (¬ t.val = 25 → idle0 4 (grid0.coords t) = true ∧ (win0 4).flush t = false) ∧ (t.val = 25 → idle0 4 (grid0.coords t) = false) := by
  revert t; decide +kernel

theorem body_obligation {c : Dev nD} (h : Holds D m c) : BodyObligation (dats D m 0 c) (defs₀ (F := Ideal)) Variants.none () Set.univ := fun t => by
  rw [bigSep_W0, bigSep_W0, Loose.defs₀_row]
  have e : (dats D m 0 c).owesAt () t.succ = (dats D m 0 c).owesAt () t.castSucc := rfl
  have e0 : (dats D m 0 c).Φ t.castSucc = Inv' D c t.val := rfl
  have e1 : (dats D m 0 c).Φ t.succ = Inv' D c (t.val + 1) := rfl
  simp only [before0_0, before0_1, before0_2, before0_3, after0_0, after0_1, after0_2, after0_3, after0_4, e, e0, e1]
  iintro ⟨HP, Ho, ⟨%d0, H0⟩, ⟨%d1, H1⟩, ⟨%d2, H2⟩, ⟨%d3, H3⟩, ⟨%d4, H4⟩⟩
  iapply (triple_restated (sound_body D m h t ((dats D m 0 c).before 4 t d4)) rfl .rfl fun _ => ?_)
  swap
  · unfold pre_
    isplitl [HP]; · iexact HP
    isplitl [Ho]; · iexact Ho
    isplitl [H0]; · iexact H0
    isplitl [H1]; · iexact H1
    isplitl [H2]; · iexact H2
    isplitl [H3]; · iexact H3
    iexact H4
  · unfold post_
    iintro ⟨HP, Ho, H0, H1, H2, H3, H4⟩
    isplitl [HP]; · iexact HP
    isplitl [Ho]; · iexact Ho
    isplitl [H0]; · iexact H0
    isplitl [H1]; · iexact H1
    isplitl [H2]; · iexact H2
    isplitl [H3]; · iexact H3
    by_cases ht : t.val = 25
    · simp only [(idle4 t).2 ht, if_pos ht]
      iexact H4
    · simp only [((idle4 t).1 ht).1, ((idle4 t).1 ht).2, if_neg ht]
      iexists d4
      iexact H4

set_option backward.isDefEq.respectTransparency.types false in
theorem run_main (h : ∀ c, Holds D m c) : θ_run defs (onTc (τ := τ) (main (F := Ideal))) (s₀ m ρ)
    (Pipeline.FramePost cfgs (dats D m) 0 (Pipeline.afterTail₀ cfgs (dats D m) 0 (V0 m) [hostOps1])) :=
  Pipeline.θ_run_frame_around_track (Q' := _) cfgs (dats D m) (0 : Fin 1) launch0 defs₀ Variants.none m ρ main
    (hbody := fun c => (body_obligation D m (h c)).loose) (hshare := fun c => (dats D m 0 c).share_full fun _ => rfl)
    (howed := fun _ _ => rfl) (V₀ := V0 m) (opss := [hostOps1]) (hsub := sfx_sub) (hfresh := sfx_fresh) (hkeep := sfx_keeps)
    (hmain := hmain m Variants.none) (hA := A_eq D m)
    (hin := fun c => by
      show Pipeline.ΦA spec0 c ⊢ Inv' D c 0
      unfold Pipeline.ΦA Inv'
      rw [scopedRest0_eq]
      simp only [← owns_whole]
      iintro ⟨⟨⟨%s0, S0⟩, ⟨%s1, S1⟩, ⟨%s2, S2⟩, ⟨%s3, S3⟩, ⟨%s4, S4⟩⟩, HP⟩
      isplitr [HP]; swap; · iexact HP
      iexists s0, s1, s2, s3, s4
      isplitr; · ipureintro; exact fun _ => track_zero D _ _ _ _ _
      isplitl [S0]; · iexact S0
      isplitl [S1]; · iexact S1
      isplitl [S2]; · iexact S2
      isplitl [S3]; · iexact S3
      iexact S4)
    (hout := fun c => by
      show Inv' D c _ ⊢ Pipeline.ΦA spec0 c
      unfold Pipeline.ΦA Inv'
      rw [scopedRest0_eq]
      simp only [← owns_whole]
      iintro ⟨⟨%d6, %d7, %d8, %d9, %d10, %hd, S0, S1, S2, S3, S4⟩, HP⟩
      isplitr [HP]; swap; · iexact HP
      isplitl [S0]; · iexists _; iexact S0
      isplitl [S1]; · iexists _; iexact S1
      isplitl [S2]; · iexists _; iexact S2
      isplitl [S3]; · iexists _; iexact S3
      iexists _; iexact S4)

/-- The result's array after the region. -/
theorem final (c : Dev nD) : (dats D m 0 c).arrAt 4 (cfgs 0).N = out D := by
  refine (dats D m 0 c).arrAt_eq_of_after_last 4 (⟨25, by decide⟩ : Fin cfg0.N) (by decide +kernel) _ fun j => ?_
  blk_simp
  rfl

/-- Every run of @main ends with the loss in the result's buffer, the arguments as they were. -/
theorem value (h : ∀ c, Holds D m c) : θ_run defs (onTc (τ := τ) (main (F := Ideal))) ⟨m, fun _ => 0, ρ⟩ (fun r => ∀ c : Dev nD,
      r.2.mem ((c.tc : Thread nD τ).loc main_v10) = (fun _ => ((D.loss : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main D m ρ h)
  refine ⟨?_, ((hr c).1 0).trans (((dats D m 0 c).arrAt_in 0 rfl _).trans ((A_eq D m c 0).trans (V_main_arg0 m c))),
    ((hr c).2 main_arg1 (Pipeline.mem_restRefs_of main_arg1 (by decide) (by decide))).trans (W_main_arg1 m (dats D m) c),
    ((hr c).2 main_arg2 (Pipeline.mem_restRefs_of main_arg2 (by decide) (by decide))).trans (W_main_arg2 m (dats D m) c),
    ((hr c).2 main_arg3 (Pipeline.mem_restRefs_of main_arg3 (by decide) (by decide))).trans (W_main_arg3 m (dats D m) c)⟩
  refine ((hr c).2 main_v10 (Pipeline.mem_restRefs_of main_v10 (by decide) (by decide))).trans ?_
  unfold Pipeline.afterTail₀
  simp only [List.flatten_cons, List.flatten_nil, List.append_nil]
  after_reads_simp
  have e : Pipeline.withArrays (cfgs 0).spec c (V0 m c) (fun w => (dats D m 0 c).arrAt w (cfgs 0).N) (Proc.devRef .tc main_v9) = out D :=
    (Pipeline.withArrays_arr (cfgs 0).spec launch0.win.arr_inj c (V0 m c) _ 4).trans (final D m c)
  rw [e]
  rfl

end Cert.Proof.KernelIdeal

end
-- ==== Proof.ReferenceIdeal.Gathers.lean ====
/-
  The reference's reads of an array at positions held in another array, and its write of one column, each read at one
  entry: the word at a position is a number in range.
-/
module

public import proofs.«01_k».proof.ReferenceIdeal
public import Idealize.ShloMosaic.Lib.Pointwise
public import Idealize.ShloMosaic.Lib.Routing.OpsOne

@[expose] public section

set_option maxRecDepth 16384

noncomputable section

namespace Cert.Proof.ReferenceIdeal

open Cert.ReferenceIdeal
open Idealize.ShloMosaic

variable {α : Type}

/-- A gather at an entry: the operand at the position whose coordinates are the sums of its three parts. -/
theorem gather_at {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i := by
  unfold Host.gather
  congr 1
  funext a
  exact Fin.ext (h a)

/-- A start word in range is not moved by the clamp. -/
theorem start_word {s si t : Shape} {w : ℕ} (d : GatherDims s si t) (idx : IVec si w) (j : t.Idx) (a : Fin s.rank) (ha : a ∈ d.startIndexMap)
    (p : si.Idx) (hp : d.siIdx j ⟨d.startIndexMap.idxOf a, List.idxOf_lt_length_iff.2 ha⟩ = p) (n : ℕ) (hn : (idx p).toInt = n)
    (hb : n ≤ s.size a - d.sliceSizes a) : d.start j idx a = n := by
  unfold GatherDims.start
  rw [dif_pos ha, hp, hn, Int.toNat_natCast, Nat.min_eq_left hb]

/-- An axis no start word is for starts at zero. -/
theorem start_none {s si t : Shape} {w : ℕ} (d : GatherDims s si t) (idx : IVec si w) (j : t.Idx) (a : Fin s.rank) (ha : a ∉ d.startIndexMap) :
    d.start j idx a = 0 := by
  unfold GatherDims.start
  exact dif_neg ha

theorem mem_three : ∀ a : Fin 3, a ∈ ([0, 1, 2] : List (Fin 3)) := by decide

section Skew
variable {T U N : ℕ}

/-- The dimension numbers of a read of a batched rectangle at pairs of words, one pair for each entry of a table. -/
abbrev pairDims (T U N W : ℕ) (wf : GatherDims.WF ⟨3, ![8, T, U]⟩ ⟨3, ![N, W, 2]⟩ ⟨3, ![8, N, W]⟩ [0] [1, 2] [] [1, 2] [] 2 ![8, 1, 1]) :
    GatherDims ⟨3, ![8, T, U]⟩ ⟨3, ![N, W, 2]⟩ ⟨3, ![8, N, W]⟩ where
  offsetDims := [0]
  collapsedSliceDims := [1, 2]
  operandBatchingDims := []
  startIndicesBatchingDims := []
  startIndexMap := [1, 2]
  indexVectorDim := 2
  sliceSizes := ![8, 1, 1]
  wf := wf

theorem gather_pair {W : ℕ} (wf : GatherDims.WF ⟨3, ![8, T, U]⟩ ⟨3, ![N, W, 2]⟩ ⟨3, ![8, N, W]⟩ [0] [1, 2] [] [1, 2] [] 2 ![8, 1, 1])
    (x : (⟨3, ![8, T, U]⟩ : Shape).Idx → α) (idx : IVec ⟨3, ![N, W, 2]⟩ 32) (k : Fin 8) (d : Fin N) (u : Fin W) (t : Fin T) (v : Fin U)
    (h0 : (idx (ix3 d u (0 : Fin 2))).toInt = t.val) (h1 : (idx (ix3 d u (1 : Fin 2))).toInt = v.val) :
    Host.gather (pairDims T U N W wf) x idx (ix3 k d u) = x (ix3 k t v) := by
  refine gather_at _ x idx _ _ fun a => ?_
  rw [GatherDims.batchCoord_eq_zero _ _ _ List.not_mem_nil, Nat.add_zero]
  match a with
  | ⟨0, _⟩ =>
    rw [start_none _ _ _ _ (show (0 : Fin 3) ∉ ([1, 2] : List (Fin 3)) by decide), Nat.zero_add]
    rfl
  | ⟨1, _⟩ =>
    rw [GatherDims.offCoord_eq_zero _ _ _ (fun h => ((GatherDims.mem_sKept _ _).mp h).1 (show (1 : Fin 3) ∈ ([1, 2] : List (Fin 3)) by decide)), Nat.add_zero]
    refine start_word _ idx _ _ (show (1 : Fin 3) ∈ ([1, 2] : List (Fin 3)) by decide) (ix3 d u (0 : Fin 2)) (by
      funext b
      refine Fin.ext ?_
      match b with
      | ⟨0, _⟩ => rfl
      | ⟨1, _⟩ => rfl
      | ⟨2, _⟩ => rfl) _ h0 ?_
    show t.val ≤ T - 1
    omega
  | ⟨2, _⟩ =>
    rw [GatherDims.offCoord_eq_zero _ _ _ (fun h => ((GatherDims.mem_sKept _ _).mp h).1 (show (2 : Fin 3) ∈ ([1, 2] : List (Fin 3)) by decide)), Nat.add_zero]
    refine start_word _ idx _ _ (show (2 : Fin 3) ∈ ([1, 2] : List (Fin 3)) by decide) (ix3 d u (1 : Fin 2)) (by
      funext b
      refine Fin.ext ?_
      match b with
      | ⟨0, _⟩ => rfl
      | ⟨1, _⟩ => rfl
      | ⟨2, _⟩ => rfl) _ h1 ?_
    show v.val ≤ U - 1
    omega

end Skew

section Cell
variable {A B C : ℕ}

/-- The dimension numbers of a read of one entry for each of eight triples of words. -/
abbrev tripleDims (A B C : ℕ) (wf : GatherDims.WF ⟨3, ![A, B, C]⟩ ⟨2, ![8, 3]⟩ ⟨1, ![8]⟩ [] [0, 1, 2] [] [0, 1, 2] [] 1 ![1, 1, 1]) :
    GatherDims ⟨3, ![A, B, C]⟩ ⟨2, ![8, 3]⟩ ⟨1, ![8]⟩ where
  offsetDims := []
  collapsedSliceDims := [0, 1, 2]
  operandBatchingDims := []
  startIndicesBatchingDims := []
  startIndexMap := [0, 1, 2]
  indexVectorDim := 1
  sliceSizes := ![1, 1, 1]
  wf := wf

theorem gather_triple (wf : GatherDims.WF ⟨3, ![A, B, C]⟩ ⟨2, ![8, 3]⟩ ⟨1, ![8]⟩ [] [0, 1, 2] [] [0, 1, 2] [] 1 ![1, 1, 1])
    (x : (⟨3, ![A, B, C]⟩ : Shape).Idx → α) (idx : IVec ⟨2, ![8, 3]⟩ 32) (k : Fin 8) (i : Fin A) (j : Fin B) (l : Fin C)
    (h0 : (idx (ix2 k (0 : Fin 3))).toInt = i.val) (h1 : (idx (ix2 k (1 : Fin 3))).toInt = j.val) (h2 : (idx (ix2 k (2 : Fin 3))).toInt = l.val) :
    Host.gather (tripleDims A B C wf) x idx (ix1 k) = x (ix3 i j l) := by
  have hsi : ∀ (c : Fin 3) (hc : c.val < (tripleDims A B C wf).startIndexMap.length),
      (tripleDims A B C wf).siIdx (ix1 k) ⟨c.val, hc⟩ = ix2 k c := fun c hc => by
    funext b
    refine Fin.ext ?_
    match b with
    | ⟨0, _⟩ => rfl
    | ⟨1, _⟩ => rfl
  refine gather_at _ x idx _ _ fun a => ?_
  rw [GatherDims.batchCoord_eq_zero _ _ _ List.not_mem_nil, Nat.add_zero,
    GatherDims.offCoord_eq_zero _ _ _ (fun h => ((GatherDims.mem_sKept _ _).mp h).1 (mem_three a)), Nat.add_zero]
  match a with
  | ⟨0, _⟩ => exact start_word _ idx _ _ (show (0 : Fin 3) ∈ ([0, 1, 2] : List (Fin 3)) by decide) _ (hsi 0 (show 0 < 3 by decide)) _ h0 (by show i.val ≤ A - 1; omega)
  | ⟨1, _⟩ => exact start_word _ idx _ _ (show (1 : Fin 3) ∈ ([0, 1, 2] : List (Fin 3)) by decide) _ (hsi 1 (show 1 < 3 by decide)) _ h1 (by show j.val ≤ B - 1; omega)
  | ⟨2, _⟩ => exact start_word _ idx _ _ (show (2 : Fin 3) ∈ ([0, 1, 2] : List (Fin 3)) by decide) _ (hsi 2 (show 2 < 3 by decide)) _ h2 (by show l.val ≤ C - 1; omega)

end Cell

variable [Facts]

/-- The read of one class per batch and position, at every frame. -/
theorem gather_label (x : S8x200x100x512.Idx → α) (idx : IVec S8x100x1x1 32) (k : Fin 8) (t : Fin 200) (u : Fin 100) (v : Fin 512)
    (h : (idx (ix4 k u (0 : Fin 1) (0 : Fin 1))).toInt = v.val) :
    Host.gather gather_S8x200x100x512_S8x100x1x1_S8x200x100x1_1_3_02_01_3_3_120011 x idx (ix4 k t u (0 : Fin 1)) = x (ix4 k t u v) := by
  refine gather_at _ x idx _ _ fun a => ?_
  match a with
  | ⟨0, _⟩ =>
    rw [GatherDims.start_batching _ _ _ _ (show (0 : Fin 4) ∈ ([0, 2] : List (Fin 4)) by decide), GatherDims.offCoord_eq_zero _ _ _ (fun h => ((GatherDims.mem_sKept _ _).mp h).2 (show (0 : Fin 4) ∈ ([0, 2] : List (Fin 4)) by decide)),
      Nat.zero_add, Nat.add_zero]
    rfl
  | ⟨1, _⟩ =>
    rw [GatherDims.batchCoord_eq_zero _ _ _ (show (1 : Fin 4) ∉ ([0, 2] : List (Fin 4)) by decide), Nat.add_zero]
    rw [start_none _ _ _ _ (show (1 : Fin 4) ∉ ([3] : List (Fin 4)) by decide), Nat.zero_add]
    rfl
  | ⟨2, _⟩ =>
    rw [GatherDims.start_batching _ _ _ _ (show (2 : Fin 4) ∈ ([0, 2] : List (Fin 4)) by decide), GatherDims.offCoord_eq_zero _ _ _ (fun h => ((GatherDims.mem_sKept _ _).mp h).2 (show (2 : Fin 4) ∈ ([0, 2] : List (Fin 4)) by decide)),
      Nat.zero_add, Nat.add_zero]
    rfl
  | ⟨3, _⟩ =>
    rw [GatherDims.batchCoord_eq_zero _ _ _ (show (3 : Fin 4) ∉ ([0, 2] : List (Fin 4)) by decide), GatherDims.offCoord_eq_zero _ _ _ (fun h => ((GatherDims.mem_sKept _ _).mp h).1 (show (3 : Fin 4) ∈ ([3] : List (Fin 4)) by decide)),
      Nat.add_zero]
    refine start_word _ idx _ _ (show (3 : Fin 4) ∈ ([3] : List (Fin 4)) by decide) (ix4 k u (0 : Fin 1) (0 : Fin 1)) (by
      funext b
      refine Fin.ext ?_
      match b with
      | ⟨0, _⟩ => rfl
      | ⟨1, _⟩ => rfl
      | ⟨2, _⟩ => rfl
      | ⟨3, _⟩ => rfl) _ h ?_
    show v.val ≤ 512 - 1
    omega

/-- The write of a column at column zero. -/
theorem scatter_column (x : S8x101.Idx → α) (idx : IVec S1 32) (upd : S8.Idx → α) (hidx : (idx (ix1 (0 : Fin 1))).toInt = 0) (w : Fin 8) (e : Fin 101) :
    Host.scatter scatter_S8x101_S1_S8_0_1_1_0 (fun _ b => b) x idx upd (ix2 w e) = if e.val = 0 then upd (ix1 w) else x (ix2 w e) := by
  have hl := Routing.lands_col (A := 8) (N := 101) scatter_S8x101_S1_S8_0_1_1_0 rfl rfl idx 0 hidx
  have lands : ∀ j : S8.Idx, scatter_S8x101_S1_S8_0_1_1_0.resultIdx? j idx = some (ix2 w e) → j 0 = w ∧ e = 0 := fun j hj =>
    (hl (j 0) w e).1 ((congrArg (fun t => scatter_S8x101_S1_S8_0_1_1_0.resultIdx? t idx) (eq_ix1 j).symm).trans hj)
  by_cases h : e.val = 0
  · rw [if_pos h]
    exact Routing.scatter_set_hit _ x idx upd _ _ (fun j hj => (congrArg upd (eq_ix1 j)).trans (congrArg (fun t => upd (ix1 t)) (lands j hj).1)) (ix1 w)
      ((hl w w e).2 ⟨rfl, Fin.ext h⟩)
  · rw [if_neg h]
    exact Routing.scatter_set_miss _ x idx upd _ fun j hj => h (congrArg Fin.val (lands j hj).2)

end Cert.Proof.ReferenceIdeal

end
-- ==== Proof.ReferenceIdeal.Softmax.lean ====
/-
  The reference's log-probabilities: a score less the row's largest and less the logarithm of the sum of the exponentials is
  the score less the logarithm of the row's sum; then the blank's and the labels' entries of them.
-/
module

public import proofs.«01_k».proof.Proof.Math.Data
public import proofs.«01_k».proof.Proof.ReferenceIdeal.Gathers
public import proofs.«01_k».proof.Proof.Gen.ReferenceIdeal.Run
public import Idealize.ShloMosaic.Lib.StableHlo.RunRead
public import Idealize.ShloMosaic.Lib.ReduceAll
public import Idealize.ShloMosaic.Lib.WordCmp
public import Idealize.ShloMosaic.Lib.Tactic.CleanTypes

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Lattice

/-! ## The log-probabilities -/

/-- The largest of real scores, folded from −∞ over a nonempty set, is real. -/
theorem fold_max_real {ι : Type} (S : Finset ι) (f : ι → EReal) (hf : ∀ i, ∃ r : ℝ, f i = (r : EReal)) (hS : S.Nonempty) :
    ∃ M : ℝ, S.fold max (⊥ : EReal) f = (M : EReal) := by
  obtain ⟨i, hi⟩ := hS
  have h1 : S.fold max (⊥ : EReal) f < ⊤ := (Finset.fold_max_lt _).2 ⟨bot_lt_top, fun v _ => by
    obtain ⟨r, hr⟩ := hf v
    rw [hr]; exact EReal.coe_lt_top _⟩
  have h2 : ⊥ < S.fold max (⊥ : EReal) f := (Finset.lt_fold_max _).2 (.inr ⟨i, hi, by
    obtain ⟨r, hr⟩ := hf i
    rw [hr]; exact EReal.bot_lt_coe _⟩)
  exact ⟨_, (EReal.coe_toReal h1.ne h2.ne').symm⟩

/-- The same of the fold as the reference writes it. -/
theorem fold_maximumf_real {ι : Type} (S : Finset ι) (f : ι → EReal) (b : EReal) (hb : b = ⊥) (hf : ∀ i, ∃ r : ℝ, f i = (r : EReal)) (hS : S.Nonempty) :
    ∃ M : ℝ, S.fold (FloatOps.maximumf (F := Ideal) (φ := .f32)) b f = (M : EReal) := by
  subst hb
  exact fold_max_real S f hf hS

theorem neg_inf : Ideal.ofBits .f32 0xFF800000#32 = ⊥ := by simp [Ideal.ofBits, Ideal.ieee]

/-- Scores moved by a constant move the logarithm of their sum by it. -/
theorem lse_sub (y : Fin 512 → ℝ) (M : ℝ) : lse (fun v => y v - M) = lse y - M := by
  have h : 0 < ∑ v, Real.exp (y v) := Finset.sum_pos (fun v _ => Real.exp_pos _) ⟨0, Finset.mem_univ _⟩
  unfold lse
  simp only [Real.exp_sub]
  rw [← Finset.sum_div, Real.log_div h.ne' (Real.exp_pos M).ne', Real.log_exp]

/-- Each row's largest score. -/
def rowMax (x : FVec Ideal S8x200x101x512 .f32) : FVec Ideal S8x200x101 .f32 :=
  maximumf (broadcastInDim S8x200x101 ![] bcast_S_S8x200x101 (constant S_ .f32 0xFF800000#32))
    (Host.reduce FloatOps.maximumf x (constant S_ .f32 0xFF800000#32) reducesTo_S8x200x101x512_S8x200x101_d3 h_S_)

/-- The scores less their row's largest. -/
def shifted (x : FVec Ideal S8x200x101x512 .f32) : FVec Ideal S8x200x101x512 .f32 :=
  subf x (broadcastInDim S8x200x101x512 ![0, 1, 2, 3] bcast_S8x200x101x1_S8x200x101x512_0_1_2_3
    (broadcastInDim S8x200x101x1 ![0, 1, 2] bcast_S8x200x101_S8x200x101x1_0_1_2 (rowMax x)))

/-- The log-probabilities. -/
def logProbs (x : FVec Ideal S8x200x101x512 .f32) : FVec Ideal S8x200x101x512 .f32 :=
  subf (shifted x) (broadcastInDim S8x200x101x512 ![0, 1, 2, 3] bcast_S8x200x101x1_S8x200x101x512_0_1_2_3
    (Host.log (broadcastInDim S8x200x101x1 ![0, 1, 2] bcast_S8x200x101_S8x200x101x1_0_1_2
      (Host.reduceAdd (Host.exp (shifted x)) (constant S_ .f32 0x00000000#32) reducesTo_S8x200x101x512_S8x200x101_d3 h_S_))))

theorem rowMax_entry (x : FVec Ideal S8x200x101x512 .f32) (hx : ∀ i, ∃ r : ℝ, x i = (r : EReal)) (k : Fin 8) (t : Fin 200) (u : Fin 101) :
    ∃ M : ℝ, rowMax x (ix3 k t u) = (M : EReal) := by
  have hd : reducesTo_S8x200x101x512_S8x200x101_d3.drop (ix4 k t u (0 : Fin 512)) = ix3 k t u := by
    funext a
    match a with
    | ⟨0, _⟩ => rfl
    | ⟨1, _⟩ => rfl
    | ⟨2, _⟩ => rfl
  obtain ⟨M, hM⟩ := fold_maximumf_real (Finset.univ.filter fun i => reducesTo_S8x200x101x512_S8x200x101_d3.drop i = ix3 k t u) x
    (constant (F := Ideal) S_ .f32 0xFF800000#32 (Shape.Idx.first h_S_)) neg_inf hx ⟨ix4 k t u (0 : Fin 512), Finset.mem_filter.2 ⟨Finset.mem_univ _, hd⟩⟩
  refine ⟨M, ?_⟩
  rw [rowMax, maximumf_apply, Ideal.maximumf_def, Host.reduce_eq_fold, hM]
  have hb : broadcastInDim S8x200x101 ![] bcast_S_S8x200x101 (constant (F := Ideal) S_ .f32 0xFF800000#32) (ix3 k t u) = ⊥ := neg_inf
  rw [hb, max_eq_right bot_le]

theorem shifted_entry (x : FVec Ideal S8x200x101x512 .f32) (k : Fin 8) (t : Fin 200) (u : Fin 101) (v : Fin 512) :
    shifted x (ix4 k t u v) = x (ix4 k t u v) - rowMax x (ix3 k t u) := by
  pointwise [shifted]

theorem logProbs_entry (x : FVec Ideal S8x200x101x512 .f32) (hx : ∀ i, ∃ r : ℝ, x i = (r : EReal)) (k : Fin 8) (t : Fin 200)
    (u : Fin 101) (y : Fin 512 → ℝ) (h : ∀ v, x (ix4 k t u v) = ((y v : ℝ) : EReal)) (v : Fin 512) : logProbs x (ix4 k t u v) = ((y v - lse y : ℝ) : EReal) := by
  obtain ⟨M, hM⟩ := rowMax_entry x hx k t u
  have hs : ∀ v, shifted x (ix4 k t u v) = ((y v - M : ℝ) : EReal) := fun v => by rw [shifted_entry, h, hM, ← EReal.coe_sub]
  pointwise [logProbs]
  simp only [hs]
  rw [log_sum_exp, lse_sub, ← EReal.coe_sub, sub_sub_sub_cancel_right]

theorem read_v3 (V : Valuation τ sig (Elt Ideal)) : after hostOps0_1 V (Proc.devRef .tc main_v3) = logProbs (V (Proc.devRef .tc main_arg0)) := by
  unfold_abbrev_sides
  after_reads_simp
  simp -implicitDefEqProofs only [TRef.ofBuf, TRef.toBuf, cast_cast, cast_eq]
  simp only [logProbs, shifted, rowMax]

/-! ## The blank's and the labels' log-probabilities -/

/-- The blank's entries. -/
def blanks (x : FVec Ideal S8x200x101x512 .f32) : FVec Ideal S8x200x101 .f32 :=
  shapeCast S8x200x101 (extractStridedSlice S8x200x101x1 ![0, 0, 0, 0] x slices_S8x200x101x512_S8x200x101x1_0_0_0_0) shapeCasts_S8x200x101x1_S8x200x101

theorem blanks_entry (x : FVec Ideal S8x200x101x512 .f32) (k : Fin 8) (t : Fin 200) (u : Fin 101) :
    blanks x (ix3 k t u) = x (ix4 k t u (0 : Fin 512)) := by
  pointwise [blanks]

theorem read_v5 (V : Valuation τ sig (Elt Ideal)) : after hostOps0_2 V (Proc.devRef .tc main_v5) = blanks (V (Proc.devRef .tc main_v3)) := by
  unfold_abbrev_sides
  after_reads_simp
  rfl

theorem read_v0 (V : Valuation τ sig (Elt Ideal)) : after hostOps0 V (Proc.devRef .tc main_v0)
    = extractStridedSlice S8x100 ![0, 1] (V (Proc.devRef .tc main_arg1)) slices_S8x101_S8x100_0_1 := by
  unfold_abbrev_sides
  after_reads_simp

theorem read_v2 (V : Valuation τ sig (Elt Ideal)) : after hostOps0 V (Proc.devRef .tc main_v2)
    = subi (V (Proc.devRef .tc main_arg3)) (broadcastInDim S8 ![] bcast_S_S8 (constantI S_ 32 1#32)) := by
  unfold_abbrev_sides
  after_reads_simp

theorem read_v6 (V : Valuation τ sig (Elt Ideal)) : after hostOps0_2 V (Proc.devRef .tc main_v6)
    = extractStridedSlice S8x200x100x512 ![0, 0, 0, 0] (V (Proc.devRef .tc main_v3)) slices_S8x200x101x512_S8x200x100x512_0_0_0_0 := by
  unfold_abbrev_sides
  after_reads_simp

theorem read_v7 (V : Valuation τ sig (Elt Ideal)) : after hostOps0_2 V (Proc.devRef .tc main_v7)
    = broadcastInDim S8x1x100x1 ![0, 2] bcast_S8x100_S8x1x100x1_0_2 (V (Proc.devRef .tc main_v0)) := by
  unfold_abbrev_sides
  after_reads_simp

/-- The labels as positions in the vocabulary, a negative one counted from its end. -/
def places (l : IVec S8x1x100x1 32) : IVec S8x100x1x1 32 :=
  shapeCast S8x100x1x1 (select (cmpi .slt l (broadcastInDim S8x1x100x1 ![] bcast_S_S8x1x100x1 (constantI S_ 32 0#32)))
    (addi l (broadcastInDim S8x1x100x1 ![] bcast_S_S8x1x100x1 (constantI S_ 32 512#32))) l) shapeCasts_S8x1x100x1_S8x100x1x1

/-- Whether a position is one of the vocabulary. -/
def valid (p : IVec S8x100x1x1 32) : IVec S8x100x1 1 :=
  Host.reduce IntOp.andi
    (andi (cmpi .sge p (broadcastInDim S8x100x1x1 ![] bcast_S_S8x100x1x1 (constantI S_ 32 0#32)))
      (cmpi .sle p (broadcastInDim S8x100x1x1 ![0, 1, 2, 3] bcast_S1x1x1x1_S8x100x1x1_0_1_2_3
        (broadcastInDim S1x1x1x1 ![3] bcast_S1_S1x1x1x1_3 (constantI S1 32 511#32)))))
    (constantI S_ 1 1#1) reducesTo_S8x100x1x1_S8x100x1_d3 h_S_

/-- The labels' entries. -/
def labelled (x : FVec Ideal S8x200x100x512 .f32) (l : IVec S8x1x100x1 32) : FVec Ideal S8x200x100x1 .f32 :=
  select (broadcastInDim S8x200x100x1 ![0, 2, 3] bcast_S8x100x1_S8x200x100x1_0_2_3 (valid (places l)))
    (Host.gather gather_S8x200x100x512_S8x100x1x1_S8x200x100x1_1_3_02_01_3_3_120011 x (places l))
    (broadcastInDim S8x200x100x1 ![] bcast_S_S8x200x100x1 (constant S_ .f32 0x7FC00000#32))

theorem read_v8 (V : Valuation τ sig (Elt Ideal)) : after hostOps0_3 V (Proc.devRef .tc main_v8)
    = labelled (V (Proc.devRef .tc main_v6)) (V (Proc.devRef .tc main_v7)) := by
  unfold_abbrev_sides
  after_reads_simp
  simp -implicitDefEqProofs only [TRef.ofBuf, TRef.toBuf, cast_cast, cast_eq]
  rw [labelled, valid, places]
  rfl

theorem places_entry (l : IVec S8x1x100x1 32) (k : Fin 8) (u : Fin 100) (v : Fin 512)
    (h : l (ix4 k (0 : Fin 1) u (0 : Fin 1)) = BitVec.ofNat 32 v.val) : places l (ix4 k u (0 : Fin 1) (0 : Fin 1)) = BitVec.ofNat 32 v.val := by
  pointwise [places]
  rw [h]
  clear h
  revert v; decide +kernel

theorem valid_entry (p : IVec S8x100x1x1 32) (hp : ∀ (k : Fin 8) (u : Fin 100), ∃ v : Fin 512, p (ix4 k u (0 : Fin 1) (0 : Fin 1)) = BitVec.ofNat 32 v.val)
    (j : S8x100x1.Idx) : valid p j = 1#1 := by
  refine Host.reduce_andi_one _ _ _ _ _ rfl fun i => ?_
  idx_vars i
  obtain ⟨v, hv⟩ := hp i0 i1
  obtain rfl : i2 = 0 := Subsingleton.elim _ _
  obtain rfl : i3 = 0 := Subsingleton.elim _ _
  pointwise []
  rw [hv]
  clear hv
  revert v; decide +kernel

theorem labelled_entry (x : FVec Ideal S8x200x100x512 .f32) (l : IVec S8x1x100x1 32) (L : Fin 8 → Fin 100 → Fin 512)
    (h : ∀ k u, l (ix4 k (0 : Fin 1) u (0 : Fin 1)) = BitVec.ofNat 32 (L k u).val) (k : Fin 8) (t : Fin 200) (u : Fin 100) :
    labelled x l (ix4 k t u (0 : Fin 1)) = x (ix4 k t u (L k u)) := by
  have hp : ∀ k u, places l (ix4 k u (0 : Fin 1) (0 : Fin 1)) = BitVec.ofNat 32 (L k u).val := fun k u => places_entry l k u _ (h k u)
  rw [labelled, ValueIdx.select_apply, gather_label x _ k t u (L k u) (by rw [hp]; exact WordCmp.toInt_ofNat_of_lt (by have := (L k u).isLt; omega))]
  have hv : broadcastInDim S8x200x100x1 ![0, 2, 3] bcast_S8x100x1_S8x200x100x1_0_2_3 (valid (places l)) (ix4 k t u (0 : Fin 1)) = 1#1 :=
    valid_entry _ (fun k u => ⟨_, hp k u⟩) _
  rw [hv]
  rfl

end Cert.Proof.ReferenceIdeal

end
-- ==== Proof.ReferenceIdeal.Words.lean ====
/-
  The words the reference computes of a diagonal and a column: whether they name a frame, and which.
-/
module

public import Idealize.ShloMosaic.Lib.WordCmp

@[expose] public section

set_option maxRecDepth 16384

noncomputable section

namespace Cert.Proof.ReferenceIdeal

open Idealize.ShloMosaic

/-! ## The words of one entry -/

/-- The frame of diagonal d and column u, as the reference counts it. -/
def frameWord (d u : ℕ) : BitVec 32 := IntOp.subi (BitVec.ofNat 32 d) (BitVec.ofNat 32 u)

/-- The same held between the first frame and the last. -/
def clipWord (w : BitVec 32) : BitVec 32 := IntOp.minsi 199#32 (IntOp.maxsi 0#32 w)

/-- A negative word counted from the end. -/
def wrapWord (n w : BitVec 32) : BitVec 32 := Scalar.select (IntOp.cmpi .slt w 0#32) (IntOp.addi w n) w

/-- Whether a word names a frame. -/
def insideWord (w : BitVec 32) : BitVec 1 := IntOp.andi (IntOp.cmpi .sge w 0#32) (IntOp.cmpi .slt w 200#32)

theorem words_inside (d : Fin 300) (u : Fin 101) (h : u.val ≤ d.val ∧ d.val < 200 + u.val) :
    insideWord (frameWord d.val u.val) = 1#1 ∧ wrapWord 200#32 (clipWord (frameWord d.val u.val)) = BitVec.ofNat 32 (d.val - u.val) := by
  revert d u; decide +kernel

theorem words_outside (d : Fin 300) (u : Fin 101) (h : ¬(u.val ≤ d.val ∧ d.val < 200 + u.val)) : insideWord (frameWord d.val u.val) = 0#1 := by
  revert d u; decide +kernel

/-- A small word is counted from the start. -/
theorem wrap_small (n : BitVec 32) (j : ℕ) (h : j < 2 ^ 31) : wrapWord n (BitVec.ofNat 32 j) = BitVec.ofNat 32 j := by
  have hc : IntOp.cmpi .slt (BitVec.ofNat 32 j) 0#32 = 0#1 := by
    refine congrArg BitVec.ofBool (decide_eq_false ?_)
    rw [WordCmp.toInt_ofNat_of_lt (by omega)]
    exact fun h => absurd h (Int.not_lt.2 (Int.natCast_nonneg j))
  rw [wrapWord, hc]
  rfl

end Cert.Proof.ReferenceIdeal

end
-- ==== Proof.ReferenceIdeal.Skew.lean ====
/-
  The reference's tables by anti-diagonal: at diagonal d and column u they hold the entry of frame d − u, where there is one,
  and −∞ elsewhere.
-/
module

public import proofs.«01_k».proof.Proof.ReferenceIdeal.Softmax
public import proofs.«01_k».proof.Proof.ReferenceIdeal.Words

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Lattice

/-! ## One entry of a table -/

/-- An entry chosen by the mask between what was gathered at the frame and column and −∞. -/
theorem skewed_at {W : ℕ} (wf : GatherDims.WF ⟨3, ![8, 200, W]⟩ ⟨3, ![300, W, 2]⟩ ⟨3, ![8, 300, W]⟩ [0] [1, 2] [] [1, 2] [] 2 ![8, 1, 1])
    (x : FVec Ideal ⟨3, ![8, 200, W]⟩ .f32) (mask : IVec ⟨3, ![8, 300, W]⟩ 1) (idx : IVec ⟨3, ![300, W, 2]⟩ 32) (z : FVec Ideal ⟨3, ![8, 300, W]⟩ .f32)
    (k : Fin 8) (d : Fin 300) (u : Fin W) (hW : u.val < 101) (hm : mask (ix3 k d u) = insideWord (frameWord d.val u.val))
    (h0 : idx (ix3 d u (0 : Fin 2)) = wrapWord 200#32 (clipWord (frameWord d.val u.val))) (h1 : idx (ix3 d u (1 : Fin 2)) = BitVec.ofNat 32 u.val)
    (hz : z (ix3 k d u) = ⊥) :
    select mask (Host.gather (pairDims 200 W 300 W wf) x idx) z (ix3 k d u)
      = if h : u.val ≤ d.val ∧ d.val < 200 + u.val then x (ix3 k (⟨d.val - u.val, by omega⟩ : Fin 200) u) else ⊥ := by
  rw [ValueIdx.select_apply, hm]
  split_ifs with h
  · obtain ⟨h2, h3⟩ := words_inside d ⟨u.val, hW⟩ h
    rw [h2]
    refine gather_pair wf x idx k d u ⟨d.val - u.val, by omega⟩ u ?_ ?_
    · rw [h0, h3]; exact WordCmp.toInt_ofNat_of_lt (by omega)
    · rw [h1]; exact WordCmp.toInt_ofNat_of_lt (by omega)
  · rw [words_outside d ⟨u.val, hW⟩ h]
    exact hz

/-! ## The blank's table -/

/-- The frames' words of the blank's table. -/
def frames101 : IVec S300x101 32 :=
  subi (broadcastInDim S300x101 ![0, 1] bcast_S300x1_S300x101_0_1 (broadcastInDim S300x1 ![0] bcast_S300_S300x1_0 (iotaInDim S300 32 0)))
    (broadcastInDim S300x101 ![0, 1] bcast_S1x101_S300x101_0_1 (broadcastInDim S1x101 ![1] bcast_S101_S1x101_1 (iotaInDim S101 32 0)))

/-- Where they name a frame. -/
def inside101 (w : IVec S300x101 32) : IVec S300x101 1 :=
  andi (cmpi .sge w (broadcastInDim S300x101 ![] bcast_S_S300x101 (constantI S_ 32 0#32)))
    (cmpi .slt w (broadcastInDim S300x101 ![] bcast_S_S300x101 (constantI S_ 32 200#32)))

/-- The positions the blank's table reads. -/
def at101 (w : IVec S300x101 32) (e : IVec S1x101 32) : IVec S300x101x2 32 :=
  concatenate S300x101x2 2 [⟨S300x101x1, broadcastInDim S300x101x1 ![0, 1] bcast_S300x101_S300x101x1_0_1
      (select (cmpi .slt w (broadcastInDim S300x101 ![] bcast_S_S300x101 (constantI S_ 32 0#32)))
        (addi w (broadcastInDim S300x101 ![] bcast_S_S300x101 (constantI S_ 32 200#32))) w)⟩,
    ⟨S300x101x1, broadcastInDim S300x101x1 ![0, 1] bcast_S300x101_S300x101x1_0_1 (broadcastInDim S300x101 ![0, 1] bcast_S1x101_S300x101_0_1
      (select (cmpi .slt e (broadcastInDim S1x101 ![] bcast_S_S1x101 (constantI S_ 32 0#32)))
        (addi e (broadcastInDim S1x101 ![] bcast_S_S1x101 (constantI S_ 32 101#32))) e))⟩]
    concatenates_S300x101x1_S300x101x1_S300x101x2_d2

theorem read_v16 (V : Valuation τ sig (Elt Ideal)) : after hostOps0_4 V (Proc.devRef .tc main_v16) = frames101 := by
  unfold_abbrev_sides
  after_reads_simp
  rfl

theorem read_v13 (V : Valuation τ sig (Elt Ideal)) : after hostOps0_4 V (Proc.devRef .tc main_v13)
    = broadcastInDim S1x101 ![1] bcast_S101_S1x101_1 (iotaInDim S101 32 0) := by
  unfold_abbrev_sides
  after_reads_simp

theorem read_v21 (V : Valuation τ sig (Elt Ideal)) : after hostOps0_4 V (Proc.devRef .tc main_v21) = inside101 frames101 := by
  unfold_abbrev_sides
  after_reads_simp
  rfl

theorem read_c2 (V : Valuation τ sig (Elt Ideal)) : after hostOps0_4 V (Proc.devRef .tc main_c_2) = constantI S_ 32 0#32 := by
  unfold_abbrev_sides
  after_reads_simp

theorem read_c3 (V : Valuation τ sig (Elt Ideal)) : after hostOps0_4 V (Proc.devRef .tc main_c_3) = constantI S_ 32 199#32 := by
  unfold_abbrev_sides
  after_reads_simp

theorem read_v9 (V : Valuation τ sig (Elt Ideal)) : after hostOps0_4 V (Proc.devRef .tc main_v9)
    = shapeCast S8x200x100 (V (Proc.devRef .tc main_v8)) shapeCasts_S8x200x100x1_S8x200x100 := by
  unfold_abbrev_sides
  after_reads_simp
  rfl

theorem read_v22 (V : Valuation τ sig (Elt Ideal)) : after hostOps0_5 V (Proc.devRef .tc main_v22)
    = minsi (broadcastInDim S300x101 ![] bcast_S_S300x101 (V (Proc.devRef .tc main_c_3)))
      (maxsi (broadcastInDim S300x101 ![] bcast_S_S300x101 (V (Proc.devRef .tc main_c_2))) (V (Proc.devRef .tc main_v16))) := by
  unfold_abbrev_sides
  after_reads_simp
  rfl

theorem read_v37 (V : Valuation τ sig (Elt Ideal)) : after hostOps0_6 V (Proc.devRef .tc main_v37)
    = Host.gather gather_S8x200x101_S300x101x2_S8x300x101_0_12_n_n_12_2_811 (V (Proc.devRef .tc main_v5))
      (at101 (V (Proc.devRef .tc main_v22)) (V (Proc.devRef .tc main_v13))) := by
  unfold_abbrev_sides
  after_reads_simp
  rfl

theorem read_v38 (V : Valuation τ sig (Elt Ideal)) : after hostOps0_6 V (Proc.devRef .tc main_v38)
    = broadcastInDim S1x300x101 ![1, 2] bcast_S300x101_S1x300x101_1_2 (V (Proc.devRef .tc main_v21)) := by
  unfold_abbrev_sides
  after_reads_simp

theorem read_cst (V : Valuation τ sig (Elt Ideal)) : after hostOps0_6 V (Proc.devRef .tc main_cst) = constant (F := Ideal) S_ .f32 0xFF800000#32 := by
  unfold_abbrev_sides
  after_reads_simp

theorem read_v39 (V : Valuation τ sig (Elt Ideal)) : after hostOps0_7 V (Proc.devRef .tc main_v39)
    = select (broadcastInDim S8x300x101 ![0, 1, 2] bcast_S1x300x101_S8x300x101_0_1_2 (V (Proc.devRef .tc main_v38))) (V (Proc.devRef .tc main_v37))
      (broadcastInDim S8x300x101 ![] bcast_S_S8x300x101 (V (Proc.devRef .tc main_cst))) := by
  unfold_abbrev_sides
  after_reads_simp
  rfl

/-- The blank's table. -/
def skew101 (x : FVec Ideal S8x200x101 .f32) : FVec Ideal S8x300x101 .f32 :=
  select (broadcastInDim S8x300x101 ![0, 1, 2] bcast_S1x300x101_S8x300x101_0_1_2 (broadcastInDim S1x300x101 ![1, 2] bcast_S300x101_S1x300x101_1_2 (inside101 frames101)))
    (Host.gather gather_S8x200x101_S300x101x2_S8x300x101_0_12_n_n_12_2_811 x
      (at101 (minsi (broadcastInDim S300x101 ![] bcast_S_S300x101 (constantI S_ 32 199#32))
        (maxsi (broadcastInDim S300x101 ![] bcast_S_S300x101 (constantI S_ 32 0#32)) frames101)) (broadcastInDim S1x101 ![1] bcast_S101_S1x101_1 (iotaInDim S101 32 0))))
    (broadcastInDim S8x300x101 ![] bcast_S_S8x300x101 (constant (F := Ideal) S_ .f32 0xFF800000#32))

theorem skew101_mask (k : Fin 8) (d : Fin 300) (u : Fin 101) :
    broadcastInDim S8x300x101 ![0, 1, 2] bcast_S1x300x101_S8x300x101_0_1_2 (broadcastInDim S1x300x101 ![1, 2] bcast_S300x101_S1x300x101_1_2 (inside101 frames101)) (ix3 k d u)
      = insideWord (frameWord d.val u.val) := by
  pointwise [inside101, frames101]
  rfl

theorem at101_frame (d : Fin 300) (u : Fin 101) :
    at101 (minsi (broadcastInDim S300x101 ![] bcast_S_S300x101 (constantI S_ 32 199#32))
        (maxsi (broadcastInDim S300x101 ![] bcast_S_S300x101 (constantI S_ 32 0#32)) frames101)) (broadcastInDim S1x101 ![1] bcast_S101_S1x101_1 (iotaInDim S101 32 0)) (ix3 d u (0 : Fin 2))
      = wrapWord 200#32 (clipWord (frameWord d.val u.val)) := by
  pointwise [at101, frames101]
  rfl

theorem at101_column (w : IVec S300x101 32) (d : Fin 300) (u : Fin 101) :
    at101 w (broadcastInDim S1x101 ![1] bcast_S101_S1x101_1 (iotaInDim S101 32 0)) (ix3 d u (1 : Fin 2)) = wrapWord 101#32 (BitVec.ofNat 32 u.val) := by
  pointwise [at101]
  rfl

theorem skew101_entry (x : FVec Ideal S8x200x101 .f32) (k : Fin 8) (d : Fin 300) (u : Fin 101) :
    skew101 x (ix3 k d u) = if h : u.val ≤ d.val ∧ d.val < 200 + u.val then x (ix3 k (⟨d.val - u.val, by omega⟩ : Fin 200) u) else ⊥ :=
  skewed_at _ x _ _ _ k d u u.isLt (skew101_mask k d u) (at101_frame d u) ((at101_column _ d u).trans (wrap_small _ _ (by omega))) neg_inf

/-! ## The labels' table -/

/-- The frames' words of the labels' table. -/
def framesL : IVec S300x100 32 :=
  subi (broadcastInDim S300x100 ![0, 1] bcast_S300x1_S300x100_0_1 (broadcastInDim S300x1 ![0] bcast_S300_S300x1_0 (iotaInDim S300 32 0)))
    (broadcastInDim S300x100 ![0, 1] bcast_S1x100_S300x100_0_1 (broadcastInDim S1x100 ![1] bcast_S100_S1x100_1 (iotaInDim S100 32 0)))

/-- Where they name a frame. -/
def insideL (w : IVec S300x100 32) : IVec S300x100 1 :=
  andi (cmpi .sge w (broadcastInDim S300x100 ![] bcast_S_S300x100 (constantI S_ 32 0#32)))
    (cmpi .slt w (broadcastInDim S300x100 ![] bcast_S_S300x100 (constantI S_ 32 200#32)))

/-- The positions the labels' table reads. -/
def atL (w : IVec S300x100 32) (e : IVec S1x100 32) : IVec S300x100x2 32 :=
  concatenate S300x100x2 2 [⟨S300x100x1, broadcastInDim S300x100x1 ![0, 1] bcast_S300x100_S300x100x1_0_1
      (select (cmpi .slt w (broadcastInDim S300x100 ![] bcast_S_S300x100 (constantI S_ 32 0#32)))
        (addi w (broadcastInDim S300x100 ![] bcast_S_S300x100 (constantI S_ 32 200#32))) w)⟩,
    ⟨S300x100x1, broadcastInDim S300x100x1 ![0, 1] bcast_S300x100_S300x100x1_0_1 (broadcastInDim S300x100 ![0, 1] bcast_S1x100_S300x100_0_1
      (select (cmpi .slt e (broadcastInDim S1x100 ![] bcast_S_S1x100 (constantI S_ 32 0#32)))
        (addi e (broadcastInDim S1x100 ![] bcast_S_S1x100 (constantI S_ 32 100#32))) e))⟩]
    concatenates_S300x100x1_S300x100x1_S300x100x2_d2

theorem read_v46 (V : Valuation τ sig (Elt Ideal)) : after hostOps0_8 V (Proc.devRef .tc main_v46) = framesL := by
  unfold_abbrev_sides
  after_reads_simp
  rfl

theorem read_v43 (V : Valuation τ sig (Elt Ideal)) : after hostOps0_8 V (Proc.devRef .tc main_v43)
    = broadcastInDim S1x100 ![1] bcast_S100_S1x100_1 (iotaInDim S100 32 0) := by
  unfold_abbrev_sides
  after_reads_simp

theorem read_v51 (V : Valuation τ sig (Elt Ideal)) : after hostOps0_8 V (Proc.devRef .tc main_v51) = insideL framesL := by
  unfold_abbrev_sides
  after_reads_simp
  rfl

theorem read_c10 (V : Valuation τ sig (Elt Ideal)) : after hostOps0_8 V (Proc.devRef .tc main_c_10) = constantI S_ 32 0#32 := by
  unfold_abbrev_sides
  after_reads_simp

theorem read_c11 (V : Valuation τ sig (Elt Ideal)) : after hostOps0_8 V (Proc.devRef .tc main_c_11) = constantI S_ 32 199#32 := by
  unfold_abbrev_sides
  after_reads_simp

theorem read_v52 (V : Valuation τ sig (Elt Ideal)) : after hostOps0_9 V (Proc.devRef .tc main_v52)
    = minsi (broadcastInDim S300x100 ![] bcast_S_S300x100 (V (Proc.devRef .tc main_c_11)))
      (maxsi (broadcastInDim S300x100 ![] bcast_S_S300x100 (V (Proc.devRef .tc main_c_10))) (V (Proc.devRef .tc main_v46))) := by
  unfold_abbrev_sides
  after_reads_simp
  rfl

theorem read_v67 (V : Valuation τ sig (Elt Ideal)) : after hostOps0_10 V (Proc.devRef .tc main_v67)
    = Host.gather gather_S8x200x100_S300x100x2_S8x300x100_0_12_n_n_12_2_811 (V (Proc.devRef .tc main_v9))
      (atL (V (Proc.devRef .tc main_v52)) (V (Proc.devRef .tc main_v43))) := by
  unfold_abbrev_sides
  after_reads_simp
  rfl

theorem read_v68 (V : Valuation τ sig (Elt Ideal)) : after hostOps0_10 V (Proc.devRef .tc main_v68)
    = broadcastInDim S1x300x100 ![1, 2] bcast_S300x100_S1x300x100_1_2 (V (Proc.devRef .tc main_v51)) := by
  unfold_abbrev_sides
  after_reads_simp

theorem read_cst_16 (V : Valuation τ sig (Elt Ideal)) : after hostOps0_10 V (Proc.devRef .tc main_cst_16) = constant (F := Ideal) S_ .f32 0xFF800000#32 := by
  unfold_abbrev_sides
  after_reads_simp

theorem read_v69 (V : Valuation τ sig (Elt Ideal)) : after hostOps0_11 V (Proc.devRef .tc main_v69)
    = select (broadcastInDim S8x300x100 ![0, 1, 2] bcast_S1x300x100_S8x300x100_0_1_2 (V (Proc.devRef .tc main_v68))) (V (Proc.devRef .tc main_v67))
      (broadcastInDim S8x300x100 ![] bcast_S_S8x300x100 (V (Proc.devRef .tc main_cst_16))) := by
  unfold_abbrev_sides
  after_reads_simp
  rfl

/-- The labels' table. -/
def skewL (x : FVec Ideal S8x200x100 .f32) : FVec Ideal S8x300x100 .f32 :=
  select (broadcastInDim S8x300x100 ![0, 1, 2] bcast_S1x300x100_S8x300x100_0_1_2 (broadcastInDim S1x300x100 ![1, 2] bcast_S300x100_S1x300x100_1_2 (insideL framesL)))
    (Host.gather gather_S8x200x100_S300x100x2_S8x300x100_0_12_n_n_12_2_811 x
      (atL (minsi (broadcastInDim S300x100 ![] bcast_S_S300x100 (constantI S_ 32 199#32))
        (maxsi (broadcastInDim S300x100 ![] bcast_S_S300x100 (constantI S_ 32 0#32)) framesL)) (broadcastInDim S1x100 ![1] bcast_S100_S1x100_1 (iotaInDim S100 32 0))))
    (broadcastInDim S8x300x100 ![] bcast_S_S8x300x100 (constant (F := Ideal) S_ .f32 0xFF800000#32))

theorem skewL_mask (k : Fin 8) (d : Fin 300) (u : Fin 100) :
    broadcastInDim S8x300x100 ![0, 1, 2] bcast_S1x300x100_S8x300x100_0_1_2 (broadcastInDim S1x300x100 ![1, 2] bcast_S300x100_S1x300x100_1_2 (insideL framesL)) (ix3 k d u)
      = insideWord (frameWord d.val u.val) := by
  pointwise [insideL, framesL]
  rfl

theorem atL_frame (d : Fin 300) (u : Fin 100) :
    atL (minsi (broadcastInDim S300x100 ![] bcast_S_S300x100 (constantI S_ 32 199#32))
        (maxsi (broadcastInDim S300x100 ![] bcast_S_S300x100 (constantI S_ 32 0#32)) framesL)) (broadcastInDim S1x100 ![1] bcast_S100_S1x100_1 (iotaInDim S100 32 0)) (ix3 d u (0 : Fin 2))
      = wrapWord 200#32 (clipWord (frameWord d.val u.val)) := by
  pointwise [atL, framesL]
  rfl

theorem atL_column (w : IVec S300x100 32) (d : Fin 300) (u : Fin 100) :
    atL w (broadcastInDim S1x100 ![1] bcast_S100_S1x100_1 (iotaInDim S100 32 0)) (ix3 d u (1 : Fin 2)) = wrapWord 100#32 (BitVec.ofNat 32 u.val) := by
  pointwise [atL]
  rfl

theorem skewL_entry (x : FVec Ideal S8x200x100 .f32) (k : Fin 8) (d : Fin 300) (u : Fin 100) :
    skewL x (ix3 k d u) = if h : u.val ≤ d.val ∧ d.val < 200 + u.val then x (ix3 k (⟨d.val - u.val, by omega⟩ : Fin 200) u) else ⊥ :=
  skewed_at _ x _ _ _ k d u (by omega) (skewL_mask k d u) (atL_frame d u) ((atL_column _ d u).trans (wrap_small _ _ (by omega))) neg_inf

end Cert.Proof.ReferenceIdeal

end
-- ==== Proof.ReferenceIdeal.Entry.lean ====
/-
  What the reference holds as its loop begins: the two tables by anti-diagonal, the scores of the first diagonal, and what the
  final reads need.
-/
module

public import proofs.«01_k».proof.Proof.ReferenceIdeal.Skew

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Lattice

/-! ## The stretches before the loop, one after another -/

abbrev s1 (V : Valuation τ sig (Elt Ideal)) : Valuation τ sig (Elt Ideal) := after hostOps0 V
abbrev s2 (V : Valuation τ sig (Elt Ideal)) : Valuation τ sig (Elt Ideal) := after hostOps0_1 (s1 V)
abbrev s3 (V : Valuation τ sig (Elt Ideal)) : Valuation τ sig (Elt Ideal) := after hostOps0_2 (s2 V)
abbrev s4 (V : Valuation τ sig (Elt Ideal)) : Valuation τ sig (Elt Ideal) := after hostOps0_3 (s3 V)
abbrev s5 (V : Valuation τ sig (Elt Ideal)) : Valuation τ sig (Elt Ideal) := after hostOps0_4 (s4 V)
abbrev s6 (V : Valuation τ sig (Elt Ideal)) : Valuation τ sig (Elt Ideal) := after hostOps0_5 (s5 V)
abbrev s7 (V : Valuation τ sig (Elt Ideal)) : Valuation τ sig (Elt Ideal) := after hostOps0_6 (s6 V)
abbrev s8 (V : Valuation τ sig (Elt Ideal)) : Valuation τ sig (Elt Ideal) := after hostOps0_7 (s7 V)
abbrev s9 (V : Valuation τ sig (Elt Ideal)) : Valuation τ sig (Elt Ideal) := after hostOps0_8 (s8 V)
abbrev s10 (V : Valuation τ sig (Elt Ideal)) : Valuation τ sig (Elt Ideal) := after hostOps0_9 (s9 V)
abbrev s11 (V : Valuation τ sig (Elt Ideal)) : Valuation τ sig (Elt Ideal) := after hostOps0_10 (s10 V)
abbrev s12 (V : Valuation τ sig (Elt Ideal)) : Valuation τ sig (Elt Ideal) := after hostOps0_11 (s11 V)

theorem pre_eq (V : Valuation τ sig (Elt Ideal)) : afterL preI V = after hostOps0_12 (s12 V) := rfl

variable (V : Valuation τ sig (Elt Ideal))

theorem at_v3 : s2 V (Proc.devRef .tc main_v3) = logProbs (V (Proc.devRef .tc main_arg0)) := by
  rw [s2, read_v3, s1, after_of_writes_sub _ _ hostOps0_writes (by decide)]

theorem at_v5 : s3 V (Proc.devRef .tc main_v5) = blanks (logProbs (V (Proc.devRef .tc main_arg0))) := by
  rw [s3, read_v5, at_v3]

theorem at_v0 : s2 V (Proc.devRef .tc main_v0) = extractStridedSlice S8x100 ![0, 1] (V (Proc.devRef .tc main_arg1)) slices_S8x101_S8x100_0_1 := by
  rw [s2, after_of_writes_sub _ _ hostOps0_1_writes (by decide), s1, read_v0]

/-- The labels' log-probabilities. -/
def emits (x : FVec Ideal S8x200x101x512 .f32) (l : IVec S8x101 32) : FVec Ideal S8x200x100 .f32 :=
  shapeCast S8x200x100 (labelled (extractStridedSlice S8x200x100x512 ![0, 0, 0, 0] (logProbs x) slices_S8x200x101x512_S8x200x100x512_0_0_0_0)
    (broadcastInDim S8x1x100x1 ![0, 2] bcast_S8x100_S8x1x100x1_0_2 (extractStridedSlice S8x100 ![0, 1] l slices_S8x101_S8x100_0_1))) shapeCasts_S8x200x100x1_S8x200x100

theorem at_v9 : s5 V (Proc.devRef .tc main_v9) = emits (V (Proc.devRef .tc main_arg0)) (V (Proc.devRef .tc main_arg1)) := by
  rw [s5, read_v9, s4, read_v8, s3, read_v6, read_v7, at_v3, at_v0, emits]

theorem at_v39 : s8 V (Proc.devRef .tc main_v39) = skew101 (blanks (logProbs (V (Proc.devRef .tc main_arg0)))) := by
  rw [s8, read_v39, s7, read_v37, read_v38, read_cst, s6, read_v22, after_of_writes_sub _ _ hostOps0_5_writes (r := main_v5) (by decide),
    after_of_writes_sub _ _ hostOps0_5_writes (r := main_v13) (by decide), after_of_writes_sub _ _ hostOps0_5_writes (r := main_v21) (by decide),
    s5, read_c2, read_c3, read_v16, read_v13, read_v21, after_of_writes_sub _ _ hostOps0_4_writes (r := main_v5) (by decide),
    s4, after_of_writes_sub _ _ hostOps0_3_writes (r := main_v5) (by decide), at_v5, skew101]

theorem keep_v9 : s8 V (Proc.devRef .tc main_v9) = emits (V (Proc.devRef .tc main_arg0)) (V (Proc.devRef .tc main_arg1)) := by
  rw [s8, after_of_writes_sub _ _ hostOps0_7_writes (by decide), s7, after_of_writes_sub _ _ hostOps0_6_writes (by decide),
    s6, after_of_writes_sub _ _ hostOps0_5_writes (by decide), at_v9]

theorem at_v69 : s12 V (Proc.devRef .tc main_v69) = skewL (emits (V (Proc.devRef .tc main_arg0)) (V (Proc.devRef .tc main_arg1))) := by
  rw [s12, read_v69, s11, read_v67, read_v68, read_cst_16, s10, read_v52, after_of_writes_sub _ _ hostOps0_9_writes (r := main_v9) (by decide),
    after_of_writes_sub _ _ hostOps0_9_writes (r := main_v43) (by decide), after_of_writes_sub _ _ hostOps0_9_writes (r := main_v51) (by decide),
    s9, read_c10, read_c11, read_v46, read_v43, read_v51, after_of_writes_sub _ _ hostOps0_8_writes (r := main_v9) (by decide), keep_v9, skewL]

/-- What the second half of the stretches before the loop does not write. -/
theorem keep_8_12 (r : Ref sig .tc) (h8 : r ∉ hostOps0_8_W) (h9 : r ∉ hostOps0_9_W) (h10 : r ∉ hostOps0_10_W) (h11 : r ∉ hostOps0_11_W) :
    s12 V (Proc.devRef .tc r) = s8 V (Proc.devRef .tc r) := by
  rw [s12, after_of_writes_sub _ _ hostOps0_11_writes h11, s11, after_of_writes_sub _ _ hostOps0_10_writes h10,
    s10, after_of_writes_sub _ _ hostOps0_9_writes h9, s9, after_of_writes_sub _ _ hostOps0_8_writes h8]

/-- What the first half does not write, once the blank's and the labels' scores are taken. -/
theorem keep_3_8 (r : Ref sig .tc) (h3 : r ∉ hostOps0_3_W) (h4 : r ∉ hostOps0_4_W) (h5 : r ∉ hostOps0_5_W) (h6 : r ∉ hostOps0_6_W) (h7 : r ∉ hostOps0_7_W) :
    s8 V (Proc.devRef .tc r) = s3 V (Proc.devRef .tc r) := by
  rw [s8, after_of_writes_sub _ _ hostOps0_7_writes h7, s7, after_of_writes_sub _ _ hostOps0_6_writes h6, s6, after_of_writes_sub _ _ hostOps0_5_writes h5,
    s5, after_of_writes_sub _ _ hostOps0_4_writes h4, s4, after_of_writes_sub _ _ hostOps0_3_writes h3]

/-! ## The contents as the loop begins -/

/-- The scores of the first diagonal. -/
def start : FVec Ideal S8x101 .f32 :=
  Host.scatter scatter_S8x101_S1_S8_0_1_1_0 (fun _ b => b) (broadcastInDim S8x101 ![] bcast_S_S8x101 (constant (F := Ideal) S_ .f32 0xFF800000#32))
    (broadcastInDim S1 ![] bcast_S_S1 (constantI S_ 32 0#32)) (broadcastInDim S8 ![] bcast_S_S8 (constant (F := Ideal) S_ .f32 0x00000000#32))

/-- The blank's scores of each diagonal. -/
def blankRows (x : FVec Ideal S8x200x101 .f32) : FVec Ideal S299x8x101 .f32 :=
  extractStridedSlice S299x8x101 ![0, 0, 0] (transpose S300x8x101 [1, 0, 2] (skew101 x) transposes_S8x300x101_S300x8x101_1_0_2) slices_S300x8x101_S299x8x101_0_0_0

/-- The labels' scores of each diagonal. -/
def labelRows (x : FVec Ideal S8x200x100 .f32) : FVec Ideal S299x8x100 .f32 :=
  extractStridedSlice S299x8x100 ![0, 0, 0] (transpose S300x8x100 [1, 0, 2] (skewL x) transposes_S8x300x100_S300x8x100_1_0_2) slices_S300x8x100_S299x8x100_0_0_0

theorem read_v79_0 : after hostOps0_12 V (Proc.devRef .tc main_v79_0) = extractStridedSlice S299x8x101 ![0, 0, 0]
    (transpose S300x8x101 [1, 0, 2] (V (Proc.devRef .tc main_v39)) transposes_S8x300x101_S300x8x101_1_0_2) slices_S300x8x101_S299x8x101_0_0_0 := by
  unfold_abbrev_sides
  after_reads_simp
  rfl

theorem read_v79_1 : after hostOps0_12 V (Proc.devRef .tc main_v79_1) = extractStridedSlice S299x8x100 ![0, 0, 0]
    (transpose S300x8x100 [1, 0, 2] (V (Proc.devRef .tc main_v69)) transposes_S8x300x100_S300x8x100_1_0_2) slices_S300x8x100_S299x8x100_0_0_0 := by
  unfold_abbrev_sides
  after_reads_simp
  rfl

theorem read_v79_3 : after hostOps0_12 V (Proc.devRef .tc main_v79_3) = start := by
  unfold_abbrev_sides
  after_reads_simp
  rfl

theorem read_v73 : after hostOps0_12 V (Proc.devRef .tc main_v73) = start := by
  unfold_abbrev_sides
  after_reads_simp
  rfl

theorem pre_v79_0 : afterL preI V (Proc.devRef .tc main_v79_0) = blankRows (blanks (logProbs (V (Proc.devRef .tc main_arg0)))) := by
  rw [pre_eq, read_v79_0, keep_8_12 V _ (by decide) (by decide) (by decide) (by decide), at_v39, blankRows]

theorem pre_v79_1 : afterL preI V (Proc.devRef .tc main_v79_1) = labelRows (emits (V (Proc.devRef .tc main_arg0)) (V (Proc.devRef .tc main_arg1))) := by
  rw [pre_eq, read_v79_1, at_v69, labelRows]

theorem pre_v79_3 : afterL preI V (Proc.devRef .tc main_v79_3) = start := by
  rw [pre_eq, read_v79_3]

theorem pre_v73 : afterL preI V (Proc.devRef .tc main_v73) = start := by
  rw [pre_eq, read_v73]

theorem pre_v5 : afterL preI V (Proc.devRef .tc main_v5) = blanks (logProbs (V (Proc.devRef .tc main_arg0))) := by
  rw [pre_eq, after_of_writes_sub _ _ hostOps0_12_writes (by decide), keep_8_12 V _ (by decide) (by decide) (by decide) (by decide),
    keep_3_8 V _ (by decide) (by decide) (by decide) (by decide) (by decide), at_v5]

theorem pre_v2 : afterL preI V (Proc.devRef .tc main_v2) = subi (V (Proc.devRef .tc main_arg3)) (broadcastInDim S8 ![] bcast_S_S8 (constantI S_ 32 1#32)) := by
  rw [pre_eq, after_of_writes_sub _ _ hostOps0_12_writes (by decide), keep_8_12 V _ (by decide) (by decide) (by decide) (by decide),
    keep_3_8 V _ (by decide) (by decide) (by decide) (by decide) (by decide), s3, after_of_writes_sub _ _ hostOps0_2_writes (by decide),
    s2, after_of_writes_sub _ _ hostOps0_1_writes (by decide), s1, read_v2]

/-! ## Their entries, of the data -/

theorem start_entry (k : Fin 8) (u : Fin 101) : start (ix2 k u) = if u.val = 0 then (0 : EReal) else ⊥ := by
  rw [start, scatter_column _ _ _ (by decide)]
  split_ifs
  · exact Ideal.ofBits_zero .f32
  · exact neg_inf

theorem blankRows_at (x : FVec Ideal S8x200x101 .f32) (d : Fin 299) (k : Fin 8) (u : Fin 101) : blankRows x (ix3 d k u) = skew101 x (ix3 k d.castSucc u) := by
  pointwise [blankRows]
  rfl

theorem labelRows_at (x : FVec Ideal S8x200x100 .f32) (d : Fin 299) (k : Fin 8) (u : Fin 100) : labelRows x (ix3 d k u) = skewL x (ix3 k d.castSucc u) := by
  pointwise [labelRows]
  rfl

theorem emits_at (x : FVec Ideal S8x200x101x512 .f32) (l : IVec S8x101 32) (L : Fin 8 → Fin 100 → Fin 512)
    (h : ∀ k u, l (ix2 k u.succ) = BitVec.ofNat 32 (L k u).val) (k : Fin 8) (t : Fin 200) (u : Fin 100) :
    emits x l (ix3 k t u) = logProbs x (ix4 k t u.castSucc (L k u)) := by
  have hl : ∀ (k : Fin 8) (u : Fin 100), broadcastInDim S8x1x100x1 ![0, 2] bcast_S8x100_S8x1x100x1_0_2 (extractStridedSlice S8x100 ![0, 1] l slices_S8x101_S8x100_0_1)
      (ix4 k (0 : Fin 1) u (0 : Fin 1)) = BitVec.ofNat 32 (L k u).val := fun k u => by
    rw [← h]
    pointwise []
    congr 2
    exact Fin.ext (Nat.add_comm _ _)
  pointwise [emits]
  refine (labelled_entry _ _ L hl k t u).trans ?_
  pointwise []
  rfl

section Data

variable {D : Data} {a0 : FVec Ideal S8x200x101x512 .f32} {a1 : IVec S8x101 32} {a2 a3 : IVec S8 32} (h : IsData D a0 a1 a2 a3)
include h

theorem logits_real (i : S8x200x101x512.Idx) : ∃ r : ℝ, a0 i = (r : EReal) := by
  idx_vars i
  exact ⟨_, h.logits _ _ _ _⟩

theorem logProbs_data (k : Fin 8) (t : Fin 200) (u : Fin 101) (v : Fin 512) :
    logProbs a0 (ix4 k t u v) = ((D.X k t u v - lse (D.X k t u) : ℝ) : EReal) :=
  logProbs_entry a0 (logits_real h) k t u (D.X k t u) (h.logits k t u) v

theorem blanks_data (k : Fin 8) (t : Fin 200) (u : Fin 101) : blanks (logProbs a0) (ix3 k t u) = ((D.bl k t u : ℝ) : EReal) := by
  rw [blanks_entry, logProbs_data h, Data.bl]

theorem emits_data (k : Fin 8) (t : Fin 200) (u : Fin 100) : emits a0 a1 (ix3 k t u) = ((D.em k t u : ℝ) : EReal) := by
  rw [emits_at a0 a1 (fun k u => D.L k u) (fun k u => h.labels k u.castSucc u.isLt), logProbs_data h, Data.em]
  rfl

/-- The blank's scores of each diagonal, where the frame is one. -/
theorem blankRows_data (d : Fin 299) (k : Fin 8) (u : Fin 101) :
    blankRows (blanks (logProbs a0)) (ix3 d k u) = if u.val ≤ d.val ∧ d.val < 200 + u.val then ((D.bl k (d.val - u.val) u : ℝ) : EReal) else ⊥ := by
  rw [blankRows_at, skew101_entry]
  by_cases hc : u.val ≤ d.val ∧ d.val < 200 + u.val
  · rw [if_pos hc]
    exact (dif_pos hc).trans (blanks_data h k _ u)
  · rw [if_neg hc]
    exact dif_neg hc

/-- The labels' scores of each diagonal, where the frame is one. -/
theorem labelRows_data (d : Fin 299) (k : Fin 8) (u : Fin 100) :
    labelRows (emits a0 a1) (ix3 d k u) = if u.val ≤ d.val ∧ d.val < 200 + u.val then ((D.em k (d.val - u.val) u : ℝ) : EReal) else ⊥ := by
  rw [labelRows_at, skewL_entry]
  by_cases hc : u.val ≤ d.val ∧ d.val < 200 + u.val
  · rw [if_pos hc]
    exact (dif_pos hc).trans (emits_data h k _ u)
  · rw [if_neg hc]
    exact dif_neg hc

/-- The first diagonal's scores are those of the lattice. -/
theorem start_data (k : Fin 8) (u : Fin 101) : start (ix2 k u) = Lg (diag (D.bl k) (D.em k) 0 u) := by
  rw [start_entry, diag_zero]
  split_ifs
  · rw [Lg_one]
  · rw [Lg_zero]

end Data

end Cert.Proof.ReferenceIdeal

end
-- ==== Proof.ReferenceIdeal.Loop.lean ====
/-
  The reference's loop: each trip takes the scores of one anti-diagonal to those of the next and stores them.
-/
module

public import proofs.«01_k».proof.Proof.ReferenceIdeal.Entry
public import proofs.«01_k».proof.Proof.ReferenceIdeal.Frame
public import Idealize.ShloMosaic.Lib.KernelVsHost

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Lattice

/-! ## Reading and writing one row of a table -/

/-- The row a slice at row d holds. -/
theorem slice_row {α : Type} {N W : ℕ} (x : (⟨3, ![N, 8, W]⟩ : Shape).Idx → α) (off : Fin 3 → ℤ) (hf : (⟨3, ![N, 8, W]⟩ : Shape).Slices (fun _ => 0) ⟨3, ![1, 8, W]⟩)
    (d : Fin N) (h0 : off 0 = d.val) (h1 : off 1 = 0) (h2 : off 2 = 0) (k : Fin 8) (u : Fin W) :
    Host.dynamicSlice ⟨3, ![1, 8, W]⟩ x off hf (ix3 (0 : Fin 1) k u) = x (ix3 d k u) := by
  have hs : (⟨3, ![N, 8, W]⟩ : Shape).Slices ![d.val, 0, 0] ⟨3, ![1, 8, W]⟩ := ⟨rfl, fun a => by
    match a with
    | ⟨0, _⟩ => exact d.isLt
    | ⟨1, _⟩ => exact (Nat.zero_add _).le
    | ⟨2, _⟩ => exact (Nat.zero_add _).le⟩
  rw [WordCmp.dynamicSlice_eq_extract _ x off hf ![d.val, 0, 0] hs fun a => by
    match a with
    | ⟨0, _⟩ => exact h0
    | ⟨1, _⟩ => exact h1
    | ⟨2, _⟩ => exact h2]
  refine congrArg x (funext fun a => Fin.ext ?_)
  match a with
  | ⟨0, _⟩ => rfl
  | ⟨1, _⟩ => exact Nat.zero_add _
  | ⟨2, _⟩ => exact Nat.zero_add _

/-- A table whose row d is written. -/
theorem update_row {α : Type} {N W : ℕ} (x : (⟨3, ![N, 8, W]⟩ : Shape).Idx → α) (y : (⟨3, ![1, 8, W]⟩ : Shape).Idx → α) (off : Fin 3 → ℤ)
    (hf : (⟨3, ![N, 8, W]⟩ : Shape).Slices (fun _ => 0) ⟨3, ![1, 8, W]⟩)
    (d : Fin N) (h0 : off 0 = d.val) (h1 : off 1 = 0) (h2 : off 2 = 0) (j : Fin N) (k : Fin 8) (u : Fin W) :
    Host.dynamicUpdateSlice x y off hf (ix3 j k u) = if j = d then y (ix3 (0 : Fin 1) k u) else x (ix3 j k u) := by
  have hs : (⟨3, ![N, 8, W]⟩ : Shape).Slices ![d.val, 0, 0] ⟨3, ![1, 8, W]⟩ := ⟨rfl, fun a => by
    match a with
    | ⟨0, _⟩ => exact d.isLt
    | ⟨1, _⟩ => exact (Nat.zero_add _).le
    | ⟨2, _⟩ => exact (Nat.zero_add _).le⟩
  rw [WordCmp.dynamicUpdateSlice_eq_update x y off hf ![d.val, 0, 0] hs fun a => by
    match a with
    | ⟨0, _⟩ => exact h0
    | ⟨1, _⟩ => exact h1
    | ⟨2, _⟩ => exact h2]
  unfold updateSlice
  split_ifs with hin hj hj
  · refine congrArg y (funext fun a => Fin.ext ?_)
    match a with
    | ⟨0, _⟩ => exact Nat.sub_eq_zero_of_le (le_of_eq (congrArg Fin.val hj))
    | ⟨1, _⟩ => rfl
    | ⟨2, _⟩ => rfl
  · refine absurd (Fin.ext ?_) hj
    have h3 : d.val ≤ j.val ∧ j.val < d.val + 1 := hin 0
    omega
  · refine absurd (fun a => ?_) hin
    subst hj
    match a with
    | ⟨0, _⟩ => exact ⟨le_rfl, Nat.lt_succ_self _⟩
    | ⟨1, _⟩ => exact ⟨Nat.zero_le _, (Nat.zero_add 8).symm ▸ k.isLt⟩
    | ⟨2, _⟩ => exact ⟨Nat.zero_le _, (Nat.zero_add W).symm ▸ u.isLt⟩
  · rfl

/-! ## One trip -/

/-- A position word of the trip counter. -/
abbrev offs (n : IVec S_ 32) : Fin 3 → ℤ := fun k => ((![n, constantI S_ 32 0#32, constantI S_ 32 0#32] : Fin 3 → IVec S_ 32) k (Shape.Idx.first h_S_)).toInt

/-- The scores that stay at their label. -/
def stay (P : FVec Ideal S8x101 .f32) (B : FVec Ideal S299x8x101 .f32) (n : IVec S_ 32) : FVec Ideal S8x101 .f32 :=
  addf P (shapeCast S8x101 (Host.dynamicSlice S1x8x101 B (offs n) sliceFits_S299x8x101_S1x8x101) shapeCasts_S1x8x101_S8x101)

/-- The scores that emit the label before. -/
def move (P : FVec Ideal S8x101 .f32) (E : FVec Ideal S299x8x100 .f32) (n : IVec S_ 32) : FVec Ideal S8x101 .f32 :=
  pad S8x101 ![0, 1] ![0, 0] ![0, 0] (addf (extractStridedSlice S8x100 ![0, 0] P slices_S8x101_S8x100_0_0)
    (shapeCast S8x100 (Host.dynamicSlice S1x8x100 E (offs n) sliceFits_S299x8x100_S1x8x100) shapeCasts_S1x8x100_S8x100))
    (constant (F := Ideal) S_ .f32 0xFF800000#32) pads_S8x100_S8x101_000_100 h_S_

/-- The two together. -/
def both (a b : FVec Ideal S8x101 .f32) : FVec Ideal S8x101 .f32 :=
  select (cmpf .une (subf a b) (subf a b)) (addf a b) (addf (maximumf a b) (Host.log1p (Host.exp (Host.negf (Host.absf (subf a b))))))

theorem trip_scores (V : Valuation τ sig (Elt Ideal)) : res_main_while0b_v147 V
    = both (stay (V (Proc.devRef .tc main_v79_3)) (V (Proc.devRef .tc main_v79_0)) (V (Proc.devRef .tc main_v79_2)))
      (move (V (Proc.devRef .tc main_v79_3)) (V (Proc.devRef .tc main_v79_1)) (V (Proc.devRef .tc main_v79_2))) := rfl

theorem both_at (a b : FVec Ideal S8x101 .f32) (k : Fin 8) (u : Fin 101) : both a b (ix2 k u) = lse2 (a (ix2 k u)) (b (ix2 k u)) := by
  rw [both, ValueIdx.select_apply]
  have h : cmpf (F := Ideal) .une (subf a b) (subf a b) (ix2 k u) = 0#1 := by
    pointwise []
    simp
  rw [h]
  rfl

theorem drop_blank (y : FVec Ideal S1x8x101 .f32) (k : Fin 8) (u : Fin 101) : shapeCast S8x101 y shapeCasts_S1x8x101_S8x101 (ix2 k u) = y (ix3 (0 : Fin 1) k u) := by
  pointwise []

theorem drop_label (y : FVec Ideal S1x8x100 .f32) (k : Fin 8) (u : Fin 100) : shapeCast S8x100 y shapeCasts_S1x8x100_S8x100 (ix2 k u) = y (ix3 (0 : Fin 1) k u) := by
  pointwise []

theorem lift_row (y : FVec Ideal S8x101 .f32) (k : Fin 8) (u : Fin 101) :
    broadcastInDim S1x8x101 ![1, 2] bcast_S8x101_S1x8x101_1_2 y (ix3 (0 : Fin 1) k u) = y (ix2 k u) := by
  pointwise []

theorem stay_at (P : FVec Ideal S8x101 .f32) (B : FVec Ideal S299x8x101 .f32) (n : IVec S_ 32) (d : Fin 299) (hn : (n (Shape.Idx.first h_S_)).toInt = d.val)
    (k : Fin 8) (u : Fin 101) : stay P B n (ix2 k u) = P (ix2 k u) + B (ix3 d k u) := by
  refine congrArg (P (ix2 k u) + ·) ?_
  rw [drop_blank]
  exact slice_row B (offs n) _ d hn rfl rfl k u

theorem move_zero (P : FVec Ideal S8x101 .f32) (E : FVec Ideal S299x8x100 .f32) (n : IVec S_ 32) (k : Fin 8) : move P E n (ix2 k (0 : Fin 101)) = ⊥ := by
  pointwise [move]
  exact neg_inf

theorem move_succ (P : FVec Ideal S8x101 .f32) (E : FVec Ideal S299x8x100 .f32) (n : IVec S_ 32) (d : Fin 299) (hn : (n (Shape.Idx.first h_S_)).toInt = d.val)
    (k : Fin 8) (u : Fin 100) : move P E n (ix2 k u.succ) = P (ix2 k u.castSucc) + E (ix3 d k u) := by
  rw [move, pad_apply_of_inside _ _ _ _ _ _ _ _ (ix2 k u) fun a => by
    match a with
    | ⟨0, _⟩ => exact (show k.val = 0 + k.val * (0 + 1) by omega)
    | ⟨1, _⟩ => exact (show u.val + 1 = 1 + u.val * (0 + 1) by omega)]
  refine congrArg₂ (· + ·) (congrArg P (funext fun a => Fin.ext ?_)) ?_
  · match a with
    | ⟨0, _⟩ => exact Nat.zero_add _
    | ⟨1, _⟩ => exact Nat.zero_add _
  · rw [drop_label]
    exact slice_row E (offs n) _ d hn rfl rfl k u

/-! ## One trip, of the data -/

/-- A score plus an entry of a table: the probability times the entry's exponential where there is a frame, none elsewhere. -/
theorem add_entry {x r : ℝ} (hx : 0 ≤ x) (c : Prop) [Decidable c] : Lg x + (if c then (r : EReal) else ⊥) = Lg (if c then x * Real.exp r else 0) := by
  split_ifs
  · exact Lg_add hx r
  · rw [EReal.add_bot, Lg_zero]

section Data

variable {D : Data} {a0 : FVec Ideal S8x200x101x512 .f32} {a1 : IVec S8x101 32} {a2 a3 : IVec S8 32} (h : IsData D a0 a1 a2 a3)
include h

/-- The scores of one diagonal give those of the next, as far as its frames are ones of the input. -/
theorem next_diag (P : FVec Ideal S8x101 .f32) (n : IVec S_ 32) (d : Fin 299) (hn : (n (Shape.Idx.first h_S_)).toInt = d.val)
    (hP : ∀ (k : Fin 8) (u : Fin 101), d.val < 200 + u.val → P (ix2 k u) = Lg (diag (D.bl k) (D.em k) d u)) (k : Fin 8) (u : Fin 101) (hu : d.val + 1 < 200 + u.val) :
    both (stay P (blankRows (blanks (logProbs a0))) n) (move P (labelRows (emits a0 a1)) n) (ix2 k u) = Lg (diag (D.bl k) (D.em k) (d.val + 1) u) := by
  rw [both_at, stay_at P _ n d hn, hP k u (by omega), blankRows_data h, add_entry (diag_nonneg _ _ _ _)]
  refine Fin.cases (motive := fun u => d.val + 1 < 200 + u.val → lse2 (Lg (if u.val ≤ d.val ∧ d.val < 200 + u.val then diag (D.bl k) (D.em k) d u * Real.exp (D.bl k (d.val - u.val) u) else 0))
    (move P (labelRows (emits a0 a1)) n (ix2 k u)) = Lg (diag (D.bl k) (D.em k) (d.val + 1) u)) (fun hu => ?_) (fun v hu => ?_) u hu
  · have h0 : ((0 : Fin 101) : ℕ) = 0 := rfl
    rw [h0] at hu ⊢
    rw [move_zero, if_pos ⟨Nat.zero_le _, by omega⟩, ← Lg_zero, lse2_Lg (mul_nonneg (diag_nonneg _ _ _ _) (Real.exp_pos _).le) le_rfl, add_zero, diag_succ_zero, Nat.sub_zero]
  · have hv : (v.succ : ℕ) = v.val + 1 := rfl
    rw [hv] at hu ⊢
    have hc : (v.val + 1 ≤ d.val ∧ d.val < 200 + (v.val + 1)) ↔ v.val + 1 ≤ d.val := ⟨fun x => x.1, fun x => ⟨x, by omega⟩⟩
    have hc' : (v.val ≤ d.val ∧ d.val < 200 + v.val) ↔ v.val ≤ d.val := ⟨fun x => x.1, fun x => ⟨x, by omega⟩⟩
    rw [move_succ P _ n d hn, hP k v.castSucc (show d.val < 200 + v.val by omega), labelRows_data h, add_entry (diag_nonneg _ _ _ _),
      lse2_Lg (by split_ifs; exacts [mul_nonneg (diag_nonneg _ _ _ _) (Real.exp_pos _).le, le_rfl]) (by split_ifs; exacts [mul_nonneg (diag_nonneg _ _ _ _) (Real.exp_pos _).le, le_rfl]),
      diag_succ_succ]
    simp only [hc, hc']
    rfl

end Data

/-! ## All trips -/

/-- What the loop carries before trip k. -/
structure Carried (D : Data) (a0 : FVec Ideal S8x200x101x512 .f32) (a1 : IVec S8x101 32) (d : ℕ) (V : Valuation τ sig (Elt Ideal)) : Prop where
  blank : V (Proc.devRef .tc main_v79_0) = blankRows (blanks (logProbs a0))
  label : V (Proc.devRef .tc main_v79_1) = labelRows (emits a0 a1)
  score : ∀ (P : FVec Ideal S8x101 .f32), V (Proc.devRef .tc main_v79_3) = P → ∀ (k : Fin 8) (u : Fin 101), d < 200 + u.val → P (ix2 k u) = Lg (diag (D.bl k) (D.em k) d u)
  rows : ∀ (R : FVec Ideal S299x8x101 .f32), V (Proc.devRef .tc main_v79_4) = R → ∀ (j : Fin 299) (k : Fin 8) (u : Fin 101), j.val < d → j.val + 1 < 200 + u.val →
    R (ix3 j k u) = Lg (diag (D.bl k) (D.em k) (j.val + 1) u)

section Data

variable {D : Data} {a0 : FVec Ideal S8x200x101x512 .f32} {a1 : IVec S8x101 32} {a2 a3 : IVec S8 32} (h : IsData D a0 a1 a2 a3)
include h

theorem carried_step (d : Fin 299) (V : Valuation τ sig (Elt Ideal)) (n : IVec S_ 32) (hV : V (Proc.devRef .tc main_v79_2) = n)
    (hn : (n (Shape.Idx.first h_S_)).toInt = d.val) (hc : Carried D a0 a1 d V) : Carried D a0 a1 (d.val + 1) (afterL bodyI V) := by
  have hnew : ∀ (k : Fin 8) (u : Fin 101), d.val + 1 < 200 + u.val →
      (res_main_while0b_v147 V : FVec Ideal S8x101 .f32) (ix2 k u) = Lg (diag (D.bl k) (D.em k) (d.val + 1) u) := fun k u hu => by
    rw [trip_scores, hc.blank, hc.label, hV]
    exact next_diag h _ n d hn (hc.score _ rfl) k u hu
  refine ⟨(trip_main_v79_0 V).trans hc.blank, (trip_main_v79_1 V).trans hc.label, fun P hP k u hu => ?_, fun R hR j k u hj hu => ?_⟩
  · rw [← hP, trip_main_v79_3]
    exact hnew k u hu
  · rw [← hR, trip_main_v79_4, hV]
    refine (update_row _ _ (offs n) _ d hn rfl rfl j k u).trans ?_
    split_ifs with he
    · subst he
      exact (lift_row _ k u).trans (hnew k u hu)
    · exact hc.rows _ rfl j k u (by have : j.val ≠ d.val := fun e => he (Fin.ext e); omega) hu

end Data

/-- The data held by the arguments of a core. -/
abbrev Holds (D : Data) (m : (ℓ : Loc nD τ sig) → Buf (Elt Ideal) ℓ) (c : Dev nD) : Prop :=
  IsData D (m ((c.tc : Thread nD τ).loc main_arg0)) (m ((c.tc : Thread nD τ).loc main_arg1)) (m ((c.tc : Thread nD τ).loc main_arg2)) (m ((c.tc : Thread nD τ).loc main_arg3))

theorem carried (D : Data) (m : (ℓ : Loc nD τ sig) → Buf (Elt Ideal) ℓ) (c : Dev nD) (h : Holds D m c) :
    ∀ d, d ≤ 299 → Carried D (m ((c.tc : Thread nD τ).loc main_arg0)) (m ((c.tc : Thread nD τ).loc main_arg1)) d (atK m d c)
  | 0, _ => by
    refine ⟨pre_v79_0 _, pre_v79_1 _, fun P hP k u _ => ?_, fun R hR j k u hj _ => absurd hj (Nat.not_lt_zero _)⟩
    rw [← hP]
    exact (congrFun (pre_v79_3 _) _).trans (start_data h k u)
  | d + 1, hd => by
    have ih := carried D m c h d (by omega)
    have hA := cond_keeps (atK m d c)
    rw [show atK m (d + 1) c = afterL bodyI (after condOps (atK m d c)) from rfl]
    refine carried_step h ⟨d, by omega⟩ _ (fun _ => Scf.iv 0#32 1#32 d) ((hA main_v79_2 (by decide)).trans (atK_ctr m c d)) ?_ ⟨?_, ?_, ?_, ?_⟩
    · show (0#32 + BitVec.ofNat 32 d * 1#32).toInt = d
      rw [BitVec.zero_add, BitVec.mul_one]
      exact WordCmp.toInt_ofNat_of_lt (by omega)
    · exact (hA main_v79_0 (by decide)).trans ih.blank
    · exact (hA main_v79_1 (by decide)).trans ih.label
    · intro P hP
      exact ih.score P ((hA main_v79_3 (by decide)).symm.trans hP)
    · intro R hR
      exact ih.rows R ((hA main_v79_4 (by decide)).symm.trans hR)

/-- What no trip writes is as the loop found it. -/
theorem loop_keep (m : (ℓ : Loc nD τ sig) → Buf (Elt Ideal) ℓ) (c : Dev nD) (r : Ref sig .tc) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) (hc : r ∉ condOps_W) :
    ∀ d, atK m d c (Proc.devRef .tc r) = entryContents preI m c (Proc.devRef .tc r)
  | 0 => rfl
  | d + 1 => by
    rw [show atK m (d + 1) c = afterL bodyI (after condOps (atK m d c)) from rfl]
    simp only [bodyI, afterL_cons, afterL_nil]
    rw [after_of_writes_sub _ _ while0Ops0_6_writes h6, after_of_writes_sub _ _ while0Ops0_5_writes h5, after_of_writes_sub _ _ while0Ops0_4_writes h4,
      after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc, loop_keep m c r h0 h1 h2 h3 h4 h5 h6 hc d]
    rfl

end Cert.Proof.ReferenceIdeal

end
-- ==== Proof.ReferenceIdeal.Value.lean ====
/-
  The reference's result: each batch reads its score at the diagonal and column where its lattice ends and adds the blank's
  score there; the negated sums are averaged.
-/
module

public import proofs.«01_k».proof.Proof.ReferenceIdeal.Loop

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo Idealize.ShloMosaic.Tactic
open Idealize.SL Idealize.SL.Sem
open Cert.Proof.Lattice

/-! ## The last stretch -/

/-- One word for every batch. -/
def spread (w : BitVec 32) : IVec S8 32 := broadcastInDim S8 ![] bcast_S_S8 (constantI S_ 32 w)

/-- Negative positions counted from the end. -/
def wraps (n : BitVec 32) (w : IVec S8 32) : IVec S8 32 := select (cmpi .slt w (spread 0#32)) (addi w (spread n)) w

/-- Three positions of each batch, together. -/
def triple (a b c : IVec S8 32) : IVec S8x3 32 :=
  concatenate S8x3 1 [⟨S8x1, broadcastInDim S8x1 ![0] bcast_S8_S8x1_0 a⟩, ⟨S8x1, broadcastInDim S8x1 ![0] bcast_S8_S8x1_0 b⟩,
    ⟨S8x1, broadcastInDim S8x1 ![0] bcast_S8_S8x1_0 c⟩] concatenates_S8x1_S8x1_S8x1_S8x3_d1

/-- Every diagonal's scores. -/
def allRows (P : FVec Ideal S8x101 .f32) (R : FVec Ideal S299x8x101 .f32) : FVec Ideal S300x8x101 .f32 :=
  concatenate S300x8x101 0 [⟨S1x8x101, broadcastInDim S1x8x101 ![1, 2] bcast_S8x101_S1x8x101_1_2 P⟩, ⟨S299x8x101, R⟩] concatenates_S1x8x101_S299x8x101_S300x8x101_d0

/-- Each batch's log-likelihood. -/
def likelihoods (P : FVec Ideal S8x101 .f32) (R : FVec Ideal S299x8x101 .f32) (B : FVec Ideal S8x200x101 .f32) (a2 u : IVec S8 32) : FVec Ideal S8 .f32 :=
  addf (Host.gather gather_S300x8x101_S8x3_S8_n_012_n_n_012_1_111 (allRows P R)
      (triple (wraps 300#32 (addi (subi a2 (spread 1#32)) u)) (wraps 8#32 (iotaInDim S8 32 0)) (wraps 101#32 u)))
    (Host.gather gather_S8x200x101_S8x3_S8_n_012_n_n_012_1_111 B
      (triple (wraps 8#32 (iotaInDim S8 32 0)) (wraps 200#32 (subi a2 (spread 1#32))) (wraps 101#32 u)))

/-- The mean of the negated. -/
def mean (x : FVec Ideal S8 .f32) : FVec Ideal S_ .f32 :=
  Host.divf (Host.reduceAdd (Host.negf x) (constant (F := Ideal) S_ .f32 0x00000000#32) reducesTo_S8_S_d0 h_S_) (constant (F := Ideal) S_ .f32 0x41000000#32)

theorem read_v131 (V : Valuation τ sig (Elt Ideal)) : after hostOps0_13 V (Proc.devRef .tc main_v131)
    = mean (likelihoods (V (Proc.devRef .tc main_v73)) (V (Proc.devRef .tc main_v79_4)) (V (Proc.devRef .tc main_v5)) (V (Proc.devRef .tc main_arg2)) (V (Proc.devRef .tc main_v2))) := by
  unfold_abbrev_sides
  after_reads_simp
  rfl

/-! ## Its entries -/

theorem wraps_at (n : BitVec 32) (w : IVec S8 32) (k : Fin 8) : wraps n w (ix1 k) = wrapWord n (w (ix1 k)) := by
  pointwise [wraps, spread]
  rfl

theorem wraps_small (n : BitVec 32) (w : IVec S8 32) (k : Fin 8) (j : ℕ) (hj : j < 2 ^ 31) (h : w (ix1 k) = BitVec.ofNat 32 j) : (wraps n w (ix1 k)).toInt = j := by
  rw [wraps_at, h, wrap_small n j hj]
  exact WordCmp.toInt_ofNat_of_lt hj

theorem triple_0 (a b c : IVec S8 32) (k : Fin 8) : triple a b c (ix2 k (0 : Fin 3)) = a (ix1 k) := by
  pointwise [triple]

theorem triple_1 (a b c : IVec S8 32) (k : Fin 8) : triple a b c (ix2 k (1 : Fin 3)) = b (ix1 k) := by
  pointwise [triple]

theorem triple_2 (a b c : IVec S8 32) (k : Fin 8) : triple a b c (ix2 k (2 : Fin 3)) = c (ix1 k) := by
  pointwise [triple]

theorem allRows_zero (P : FVec Ideal S8x101 .f32) (R : FVec Ideal S299x8x101 .f32) (k : Fin 8) (u : Fin 101) : allRows P R (ix3 (0 : Fin 300) k u) = P (ix2 k u) := by
  pointwise [allRows]

theorem allRows_succ (P : FVec Ideal S8x101 .f32) (R : FVec Ideal S299x8x101 .f32) (j : Fin 299) (k : Fin 8) (u : Fin 101) :
    allRows P R (ix3 j.succ k u) = R (ix3 j k u) := by
  pointwise [allRows]
  exact dif_neg (Nat.not_lt_of_le (Nat.succ_le_succ (Nat.zero_le _)))

theorem word_less (n : ℕ) : IntOp.subi (BitVec.ofNat 32 (n + 1)) 1#32 = BitVec.ofNat 32 n := by
  rw [BitVec.ofNat_add]
  exact BitVec.add_sub_cancel _ _

/-- An array's words less one. -/
theorem less_spread (a : IVec S8 32) (k : Fin 8) (n : ℕ) (h : a (ix1 k) = BitVec.ofNat 32 (n + 1)) : subi a (spread 1#32) (ix1 k) = BitVec.ofNat 32 n :=
  (congrArg (IntOp.subi · 1#32) h).trans (word_less n)

section Data

variable {D : Data} {a0 : FVec Ideal S8x200x101x512 .f32} {a1 : IVec S8x101 32} {a2 a3 : IVec S8 32} (h : IsData D a0 a1 a2 a3)
include h

theorem likelihoods_data (R : FVec Ideal S299x8x101 .f32)
    (hR : ∀ (j : Fin 299) (k : Fin 8) (u : Fin 101), j.val + 1 < 200 + u.val → R (ix3 j k u) = Lg (diag (D.bl k) (D.em k) (j.val + 1) u)) (k : Fin 8) :
    likelihoods start R (blanks (logProbs a0)) a2 (subi a3 (spread 1#32)) (ix1 k) = ((D.ll k : ℝ) : EReal) := by
  have hT := D.hT k
  have hU := D.hU k
  have h2 := less_spread a2 k (D.T k) (h.frames k)
  have h3 := less_spread a3 k (D.U k) (h.texts k)
  have hd : addi (subi a2 (spread 1#32)) (subi a3 (spread 1#32)) (ix1 k) = BitVec.ofNat 32 (D.T k + D.U k) := by
    rw [BitVec.ofNat_add]
    exact congrArg₂ (· + ·) h2 h3
  have hrow : ∀ (i : Fin 300), i.val < 200 + D.U k → allRows start R (ix3 i k (⟨D.U k, hU⟩ : Fin 101)) = Lg (diag (D.bl k) (D.em k) i (D.U k)) := fun i =>
    Fin.cases (motive := fun i => i.val < 200 + D.U k → allRows start R (ix3 i k (⟨D.U k, hU⟩ : Fin 101)) = Lg (diag (D.bl k) (D.em k) i (D.U k)))
      (fun _ => (allRows_zero _ _ _ _).trans (start_data h k _)) (fun j hj => (allRows_succ _ _ _ _ _).trans (hR j k _ hj)) i
  have e1 := (gather_triple (A := 300) (B := 8) (C := 101) (gather_S300x8x101_S8x3_S8_n_012_n_n_012_1_111).wf (allRows start R)
    (triple (wraps 300#32 (addi (subi a2 (spread 1#32)) (subi a3 (spread 1#32)))) (wraps 8#32 (iotaInDim S8 32 0)) (wraps 101#32 (subi a3 (spread 1#32))))
    k ⟨D.T k + D.U k, by omega⟩ k ⟨D.U k, hU⟩ (by rw [triple_0]; exact wraps_small _ _ _ _ (by omega) hd)
    (by rw [triple_1]; exact wraps_small _ _ _ _ (by omega) rfl) (by rw [triple_2]; exact wraps_small _ _ _ _ (by omega) h3)).trans
    (hrow _ (show D.T k + D.U k < 200 + D.U k by omega))
  have e2 := (gather_triple (A := 8) (B := 200) (C := 101) (gather_S8x200x101_S8x3_S8_n_012_n_n_012_1_111).wf (blanks (logProbs a0))
    (triple (wraps 8#32 (iotaInDim S8 32 0)) (wraps 200#32 (subi a2 (spread 1#32))) (wraps 101#32 (subi a3 (spread 1#32))))
    k k ⟨D.T k, hT⟩ ⟨D.U k, hU⟩ (by rw [triple_0]; exact wraps_small _ _ _ _ (by omega) rfl)
    (by rw [triple_1]; exact wraps_small _ _ _ _ (by omega) h2) (by rw [triple_2]; exact wraps_small _ _ _ _ (by omega) h3)).trans
    (blanks_data h k _ _)
  refine (congrArg₂ (· + ·) e1 e2).trans ?_
  show Lg (diag (D.bl k) (D.em k) (D.T k + D.U k) (D.U k)) + ((D.bl k (D.T k) (D.U k) : ℝ) : EReal) = _
  rw [diag, if_pos (Nat.le_add_left _ _), Nat.add_sub_cancel, Lg_pos (alpha_pos _ _ _ _), Data.ll, EReal.coe_add]

end Data

theorem mean_data (D : Data) (x : FVec Ideal S8 .f32) (h : ∀ k : Fin 8, x (ix1 k) = ((D.ll k : ℝ) : EReal)) : mean x = fun _ => ((D.loss : ℝ) : EReal) := by
  funext i
  pointwise [mean]
  rw [show (∑ k : Fin 8, -x (ix1 k)) = ((∑ k, -D.ll k : ℝ) : EReal) by
    rw [coe_sum]; exact Finset.sum_congr rfl fun k _ => by rw [h, ← EReal.coe_neg], div_eight, Data.loss]

/-! ## The run -/

variable (D : Data) (m : (ℓ : Loc nD τ sig) → Buf (Elt Ideal) ℓ) (ρ : Dev nD → PrngReg)

theorem final_loss (c : Dev nD) (h : Holds D m c) :
    finalContents condOps preI bodyI postI 299 m c (Proc.devRef .tc main_v131) = fun _ => ((D.loss : ℝ) : EReal) := by
  have hc := carried D m c h 299 le_rfl
  refine (read_v131 (after condOps (atK m 299 c))).trans ?_
  rw [after_of_writes_sub _ _ condOps_writes (r := main_v73) (by decide), after_of_writes_sub _ _ condOps_writes (r := main_v79_4) (by decide),
    after_of_writes_sub _ _ condOps_writes (r := main_v5) (by decide), after_of_writes_sub _ _ condOps_writes (r := main_arg2) (by decide),
    after_of_writes_sub _ _ condOps_writes (r := main_v2) (by decide),
    loop_keep m c main_v73 (by decide) (by decide) (by decide) (by decide) (by decide) (by decide) (by decide) (by decide),
    loop_keep m c main_v5 (by decide) (by decide) (by decide) (by decide) (by decide) (by decide) (by decide) (by decide),
    loop_keep m c main_v2 (by decide) (by decide) (by decide) (by decide) (by decide) (by decide) (by decide) (by decide),
    loop_keep m c main_arg2 (by decide) (by decide) (by decide) (by decide) (by decide) (by decide) (by decide) (by decide)]
  unfold entryContents
  rw [pre_v73, pre_v5, pre_v2, pre_keep main_arg2 (by simp)]
  exact mean_data D _ fun k => likelihoods_data h _ (fun j k u hj => hc.rows _ rfl j k u j.isLt hj) k

/-- Every run of the reference ends with the loss in the result's buffer, the arguments as they were. -/
theorem value (h : ∀ c, Holds D m c) : θ_run (defs (F := Ideal)) (onTc (τ := τ) main) ⟨m, fun _ => 0, ρ⟩ (fun r => ∀ c : Dev nD,
      r.2.mem ((c.tc : Thread nD τ).loc main_v131) = (fun _ => ((D.loss : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_fold_sems m ρ
  · exact final_loss D m c (h c)
  all_goals exact final_keep m c _ (by simp)

end Cert.Proof.ReferenceIdeal

end
-- ==== Proof.lean ====
/-
  The claims together: the three frames, the idealization's one constant, and the loss that the kernel and the reference share.
-/
module

public import proofs.«01_k».proof.Defs
public import proofs.«01_k».proof.Proof.Kernel.Frame
public import proofs.«01_k».proof.Proof.KernelIdeal.Frame
public import proofs.«01_k».proof.Proof.ReferenceIdeal.Frame
public import proofs.«01_k».proof.Proof.Pre
public import proofs.«01_k».proof.Proof.KernelIdeal.Value
public import proofs.«01_k».proof.Proof.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The mask constant is −∞ at `Ideal`. -/
theorem preserves : Cert.preserves_Kernel_KernelIdeal := IdealRules.named_const.statement _ _ _ _ _ rfl

section Values

local instance : Cert.KernelIdeal.Facts := Cert.KernelIdeal.Gen.facts
local instance : Cert.ReferenceIdeal.Facts := Cert.ReferenceIdeal.Gen.facts
local instance : Cert.Pre_in_range.Facts := preFacts

/-- The kernel and the reference end with the one loss. -/
theorem algebraic : Cert.algebraic_KernelIdeal_ReferenceIdeal_pre_in_range := by
  intro m g m' g' hpre hargs
  obtain ⟨D, hD⟩ := data_of_pre (hpre 0)
  have hk : ∀ c, KernelIdeal.Holds D m c := fun c => by
    obtain rfl : c = 0 := Subsingleton.elim _ _
    exact hD
  have hr : ∀ c, ReferenceIdeal.Holds D m' c := fun c => by
    obtain rfl : c = 0 := Subsingleton.elim _ _
    obtain ⟨e0, e1, e2, e3⟩ := hargs 0
    unfold ReferenceIdeal.Holds
    rw [e0, e1, e2, e3]
    exact hD
  exact ⟨fun _ _ => ((D.loss : ℝ) : EReal), KernelIdeal.value D m g hk, ReferenceIdeal.value D m' g' hr⟩

end Values

theorem claim : Cert.Claim := ⟨Cert.Kernel.Gen.facts, Cert.KernelIdeal.Gen.facts, Cert.ReferenceIdeal.Gen.facts, preFacts,
  fun m g _ => Kernel.Loose.frame m g,
  fun m g _ => KernelIdeal.Loose.frame m g,
  fun m g _ => KernelIdeal.Loose.frame m g,
  fun m g _ => ReferenceIdeal.frame m g,
  fun m g _ => ReferenceIdeal.frame m g,
  preserves,
  algebraic⟩

end Cert.Proof

end
